-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x4 : Shape := ⟨3, ![32, 1, 4]⟩
abbrev S32x1x16384 : Shape := ⟨3, ![32, 1, 16384]⟩
abbrev S32x1x32x64 : Shape := ⟨4, ![32, 1, 32, 64]⟩
abbrev S32x1x512 : Shape := ⟨3, ![32, 1, 512]⟩
abbrev S32x16x32x128 : Shape := ⟨4, ![32, 16, 32, 128]⟩
abbrev S32x16x128 : Shape := ⟨3, ![32, 16, 128]⟩
abbrev S32x128x128 : Shape := ⟨3, ![32, 128, 128]⟩
abbrev S32x1x64 : Shape := ⟨3, ![32, 1, 64]⟩
abbrev S32x4 : Shape := ⟨2, ![32, 4]⟩
abbrev S32x32x512 : Shape := ⟨3, ![32, 32, 512]⟩
abbrev S32x32x64 : Shape := ⟨3, ![32, 32, 64]⟩
abbrev S1x32x512 : Shape := ⟨3, ![1, 32, 512]⟩
abbrev S1x32x64 : Shape := ⟨3, ![1, 32, 64]⟩
abbrev S1x1x512 : Shape := ⟨3, ![1, 1, 512]⟩
abbrev S1x16x32x128 : Shape := ⟨4, ![1, 16, 32, 128]⟩
abbrev S1x16x128 : Shape := ⟨3, ![1, 16, 128]⟩
abbrev S1x128x128 : Shape := ⟨3, ![1, 128, 128]⟩
abbrev S1x1x64 : Shape := ⟨3, ![1, 1, 64]⟩
abbrev S512x512 : Shape := ⟨2, ![512, 512]⟩
abbrev S32x512 : Shape := ⟨2, ![32, 512]⟩
abbrev S32x64 : Shape := ⟨2, ![32, 64]⟩
abbrev S16x128 : Shape := ⟨2, ![16, 128]⟩
abbrev S128x16 : Shape := ⟨2, ![128, 16]⟩
abbrev S1x1x8x128 : Shape := ⟨4, ![1, 1, 8, 128]⟩
abbrev S8x128 : Shape := ⟨2, ![8, 128]⟩
abbrev S32x128 : Shape := ⟨2, ![32, 128]⟩
abbrev S32x1 : Shape := ⟨2, ![32, 1]⟩
abbrev S1x32x128 : Shape := ⟨3, ![1, 32, 128]⟩
abbrev S64x128 : Shape := ⟨2, ![64, 128]⟩
abbrev S1x512 : Shape := ⟨2, ![1, 512]⟩
abbrev S1x1x128 : Shape := ⟨3, ![1, 1, 128]⟩
abbrev S1x128 : Shape := ⟨2, ![1, 128]⟩
abbrev S1x1 : Shape := ⟨2, ![1, 1]⟩
abbrev S32 : Shape := ⟨1, ![32]⟩
abbrev S1x64 : Shape := ⟨2, ![1, 64]⟩

abbrev nBuf : Space → Nat
  | .hbm => 13
  | .vmem => 19
  | .smem => 1
  | _ => 0

abbrev bufTy : (tb : Table) → Fin (tcTables nBuf tb) → BufTy
  | .hbm, ⟨0, _⟩ => ⟨S32x1x4, .f32⟩
  | .hbm, ⟨1, _⟩ => ⟨S32x1x16384, .bf16⟩
  | .hbm, ⟨2, _⟩ => ⟨S32x1x32x64, .bf16⟩
  | .hbm, ⟨3, _⟩ => ⟨S32x1x512, .i32⟩
  | .hbm, ⟨4, _⟩ => ⟨S32x16x32x128, .i32⟩
  | .hbm, ⟨5, _⟩ => ⟨S32x16x128, .f32⟩
  | .hbm, ⟨6, _⟩ => ⟨S32x128x128, .i32⟩
  | .hbm, ⟨7, _⟩ => ⟨S32x1x512, .fp8e4m3⟩
  | .hbm, ⟨8, _⟩ => ⟨S32x1x64, .bf16⟩
  | .hbm, ⟨9, _⟩ => ⟨S32x4, .f32⟩
  | .hbm, ⟨10, _⟩ => ⟨S32x32x512, .bf16⟩
  | .hbm, ⟨11, _⟩ => ⟨S32x32x64, .bf16⟩
  | .hbm, ⟨12, _⟩ => ⟨S32x32x512, .bf16⟩
  | .local _ .vmem, ⟨0, _⟩ => ⟨S1x32x512, .bf16⟩
  | .local _ .vmem, ⟨1, _⟩ => ⟨S1x32x512, .bf16⟩
  | .local _ .vmem, ⟨2, _⟩ => ⟨S1x32x64, .bf16⟩
  | .local _ .vmem, ⟨3, _⟩ => ⟨S1x32x64, .bf16⟩
  | .local _ .vmem, ⟨4, _⟩ => ⟨S1x1x512, .i32⟩
  | .local _ .vmem, ⟨5, _⟩ => ⟨S1x1x512, .i32⟩
  | .local _ .vmem, ⟨6, _⟩ => ⟨S1x16x32x128, .i32⟩
  | .local _ .vmem, ⟨7, _⟩ => ⟨S1x16x32x128, .i32⟩
  | .local _ .vmem, ⟨8, _⟩ => ⟨S1x16x128, .f32⟩
  | .local _ .vmem, ⟨9, _⟩ => ⟨S1x16x128, .f32⟩
  | .local _ .vmem, ⟨10, _⟩ => ⟨S1x128x128, .i32⟩
  | .local _ .vmem, ⟨11, _⟩ => ⟨S1x128x128, .i32⟩
  | .local _ .vmem, ⟨12, _⟩ => ⟨S1x1x512, .fp8e4m3⟩
  | .local _ .vmem, ⟨13, _⟩ => ⟨S1x1x512, .fp8e4m3⟩
  | .local _ .vmem, ⟨14, _⟩ => ⟨S1x1x64, .bf16⟩
  | .local _ .vmem, ⟨15, _⟩ => ⟨S1x1x64, .bf16⟩
  | .local _ .vmem, ⟨16, _⟩ => ⟨S1x32x512, .bf16⟩
  | .local _ .vmem, ⟨17, _⟩ => ⟨S1x32x512, .bf16⟩
  | .local _ .vmem, ⟨18, _⟩ => ⟨S512x512, .bf16⟩
  | .local _ .smem, ⟨0, _⟩ => ⟨S32x4, .f32⟩
  | _, _ => ⟨S32x1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v744 : Index := Scalar.indexCast arg0
  let c0_386 : Index := 0#32
  ![v744.toNat, 0]
def k0_off2 (i : grid0.Coords) : Fin 2 → Nat :=
  let arg0 : BitVec 32 := BitVec.ofNat 32 (i 0).val
  let v752 : Index := Scalar.indexCast arg0
  let c1_390 : Index := 1#32
  ![v752.toNat, 1]
def k0_off3 (i : grid0.Coords) : Fin 2 → Nat :=
  let arg0 : BitVec 32 := BitVec.ofNat 32 (i 0).val
  let v760 : Index := Scalar.indexCast arg0
  let c2_394 : Index := 2#32
  ![v760.toNat, 2]
def k0_off4 (i : grid0.Coords) : Fin 2 → Nat :=
  let arg0 : BitVec 32 := BitVec.ofNat 32 (i 0).val
  let v768 : Index := Scalar.indexCast arg0
  let c3_398 : Index := 3#32
  ![v768.toNat, 3]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x32x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S32x1x4 : Shape := ⟨3, ![32, 1, 4]⟩
abbrev S32x1x16384 : Shape := ⟨3, ![32, 1, 16384]⟩
abbrev S32x1x32x64 : Shape := ⟨4, ![32, 1, 32, 64]⟩
abbrev S32x1x512 : Shape := ⟨3, ![32, 1, 512]⟩
abbrev S32x16x32x128 : Shape := ⟨4, ![32, 16, 32, 128]⟩
abbrev S32x16x128 : Shape := ⟨3, ![32, 16, 128]⟩
abbrev S32x128x128 : Shape := ⟨3, ![32, 128, 128]⟩
abbrev S32x1x64 : Shape := ⟨3, ![32, 1, 64]⟩
abbrev S32x32x512 : Shape := ⟨3, ![32, 32, 512]⟩
abbrev S32x16x128x128 : Shape := ⟨4, ![32, 16, 128, 128]⟩
abbrev S32x16x4x32x128 : Shape := ⟨5, ![32, 16, 4, 32, 128]⟩
abbrev S32x16x32x4x128 : Shape := ⟨5, ![32, 16, 32, 4, 128]⟩
abbrev S32x16x4x32 : Shape := ⟨4, ![32, 16, 4, 32]⟩
abbrev S32x16x32x4 : Shape := ⟨4, ![32, 16, 32, 4]⟩
abbrev S32x16x32x4x1 : Shape := ⟨5, ![32, 16, 32, 4, 1]⟩
abbrev S32x512x512 : Shape := ⟨3, ![32, 512, 512]⟩
abbrev S32x256x128 : Shape := ⟨3, ![32, 256, 128]⟩
abbrev S32x4x64x128 : Shape := ⟨4, ![32, 4, 64, 128]⟩
abbrev S32x4x128x64 : Shape := ⟨4, ![32, 4, 128, 64]⟩
abbrev S32x512x64 : Shape := ⟨3, ![32, 512, 64]⟩
abbrev S32x1x4x128 : Shape := ⟨4, ![32, 1, 4, 128]⟩
abbrev S32x1x4x1 : Shape := ⟨4, ![32, 1, 4, 1]⟩
abbrev S32x32x64 : Shape := ⟨3, ![32, 32, 64]⟩
abbrev S32x32x1 : Shape := ⟨3, ![32, 32, 1]⟩
abbrev S32x32x513 : Shape := ⟨3, ![32, 32, 513]⟩
abbrev S32x32 : Shape := ⟨2, ![32, 32]⟩

abbrev nBuf : Space → Nat
  | .hbm => 10
  | .vmem => 10
  | .smem => 0
  | _ => 0

abbrev bufTy : (tb : Table) → Fin (tcTables nBuf tb) → BufTy
  | .hbm, ⟨0, _⟩ => ⟨S32x1x4, .f32⟩
  | .hbm, ⟨1, _⟩ => ⟨S32x1x16384, .bf16⟩
  | .hbm, ⟨2, _⟩ => ⟨S32x1x32x64, .bf16⟩
  | .hbm, ⟨3, _⟩ => ⟨S32x1x512, .i32⟩
  | .hbm, ⟨4, _⟩ => ⟨S32x16x32x128, .i32⟩
  | .hbm, ⟨5, _⟩ => ⟨S32x16x128, .f32⟩
  | .hbm, ⟨6, _⟩ => ⟨S32x128x128, .i32⟩
  | .hbm, ⟨7, _⟩ => ⟨S32x1x512, .fp8e4m3⟩
  | .hbm, ⟨8, _⟩ => ⟨S32x1x64, .bf16⟩
  | .hbm, ⟨9, _⟩ => ⟨S32x32x512, .bf16⟩
  | .local _ .vmem, ⟨0, _⟩ => ⟨S32x1x4, .f32⟩
  | .local _ .vmem, ⟨1, _⟩ => ⟨S32x1x16384, .bf16⟩
  | .local _ .vmem, ⟨2, _⟩ => ⟨S32x1x32x64, .bf16⟩
  | .local _ .vmem, ⟨3, _⟩ => ⟨S32x1x512, .i32⟩
  | .local _ .vmem, ⟨4, _⟩ => ⟨S32x16x32x128, .i32⟩
  | .local _ .vmem, ⟨5, _⟩ => ⟨S32x16x128, .f32⟩
  | .local _ .vmem, ⟨6, _⟩ => ⟨S32x128x128, .i32⟩
  | .local _ .vmem, ⟨7, _⟩ => ⟨S32x1x512, .fp8e4m3⟩
  | .local _ .vmem, ⟨8, _⟩ => ⟨S32x1x64, .bf16⟩
  | .local _ .vmem, ⟨9, _⟩ => ⟨S32x32x512, .bf16⟩
  | _, _ => ⟨S32x1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x32x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1x512 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x32x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Words.lean ====
/-
  What the packed words hold. A 32-bit word of the gathered code cache carries four 8-bit codes, the lowest byte first;
  a 32-bit word of the gathered rope cache carries two 16-bit numbers, the low half first. Here the two reinterpretations
  the programs apply to such words are read at one index, at every rank they occur at.
-/
module

public import Idealize.ShloMosaic.Lib.BitcastFour
public import Idealize.ShloMosaic.Lib.ValueIdxCoords
public import Idealize.ShloMosaic.PureOps.Ideal

@[expose] public section

noncomputable section

namespace Cert.Mla

open Idealize.ShloMosaic Idealize.ShloMosaic.ValueIdx

/-- The number an 8-bit code of a word stands for: byte `p` of the word, read as an fp8 (e4m3) number. -/
def code (w : BitVec 32) (p : ℕ) : EReal := FloatOps.ofBits (F := Ideal) .fp8e4m3 (w.extractLsb' (8 * p) 8)

/-- The number a half of a word stands for: half `p` of the word, read as a bf16 number. -/
def half (w : BitVec 32) (p : ℕ) : EReal := FloatOps.ofBits (F := Ideal) .bf16 (w.extractLsb' (16 * p) 16)

section Bits
variable {s t : Shape}

/-- Words read at eight bits: result row `r` of a column is byte `r % 4` of word row `r / 4`. -/
theorem bitcast_32_8 (x : s.Idx → BitVec 32) (h : s.Bitcasts 32 t 8) (j : t.Idx) (k : s.Idx) (r : ℕ) (hr : t.row j = r)
    (hk : ∀ a : Fin s.rank, (k a).val = if a.val + 2 = s.rank then r / 4 else (j (a.cast h.1.symm)).val) :
    bitcast t 8 x h j = (x k).extractLsb' (8 * (r % 4)) 8 := by
  subst hr
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  have hkk : h.srcIdx j ((t.row j * 8 + i) / 32) (fun a ha =>
          (Nat.div_lt_iff_lt_mul (by decide)).2 (h.pos_lt j i hi a ha)) = k := by
    funext a
    apply Fin.ext
    rw [hk a]
    split
    · rename_i ha
      rw [h.srcIdx_row _ _ _ a ha, ep]
    · rename_i ha
      exact h.srcIdx_other _ _ _ a ha
  rw [hkk, eq]
  simp [hi]

/-- Words read at sixteen bits: result row `r` of a column is half `r % 2` of word row `r / 2`. -/
theorem bitcast_32_16' (x : s.Idx → BitVec 32) (h : s.Bitcasts 32 t 16) (j : t.Idx) (k : s.Idx) (r : ℕ) (hr : t.row j = r)
    (hk : ∀ a : Fin s.rank, (k a).val = if a.val + 2 = s.rank then r / 2 else (j (a.cast h.1.symm)).val) :
    bitcast t 16 x h j = (x k).extractLsb' (16 * (r % 2)) 16 := by
  subst hr
  rw [bitcast_32_16 x h j]
  congr 2
  funext a
  apply Fin.ext
  rw [hk a]
  split
  · rename_i ha
    exact h.srcIdx_row _ _ _ a ha
  · rename_i ha
    exact h.srcIdx_other _ _ _ a ha

end Bits

/-- A plane of code words read as numbers: row `a`, lane `l` is byte `a % 4` of word row `a / 4`. -/
theorem code_ix2 {R r n : ℕ} (x : (⟨2, ![r, n]⟩ : Shape).Idx → BitVec 32) (h : (⟨2, ![r, n]⟩ : Shape).Bitcasts 32 ⟨2, ![R, n]⟩ 8)
    (a : Fin R) (l : Fin n) (p : Fin r) (hp : p.val = a.val / 4) :
    bitcastToFloat (F := Ideal) .fp8e4m3 (bitcast ⟨2, ![R, n]⟩ 8 x h) (ix2 a l) = code (x (ix2 p l)) (a.val % 4) := by
  show FloatOps.ofBits (F := Ideal) .fp8e4m3 (bitcast ⟨2, ![R, n]⟩ 8 x h (ix2 a l)) = _
  rw [bitcast_32_8 x h (ix2 a l) (ix2 p l) a.val rfl]
  · rfl
  · intro b
    match b with
    | ⟨0, _⟩ => exact hp
    | ⟨1, _⟩ => rfl

/-- The same for an array of such planes over two leading axes. -/
theorem code_ix4 {n0 n1 R r n : ℕ} (x : (⟨4, ![n0, n1, r, n]⟩ : Shape).Idx → BitVec 32)
    (h : (⟨4, ![n0, n1, r, n]⟩ : Shape).Bitcasts 32 ⟨4, ![n0, n1, R, n]⟩ 8)
    (b : Fin n0) (g : Fin n1) (a : Fin R) (l : Fin n) (p : Fin r) (hp : p.val = a.val / 4) :
    bitcastToFloat (F := Ideal) .fp8e4m3 (bitcast ⟨4, ![n0, n1, R, n]⟩ 8 x h) (ix4 b g a l) = code (x (ix4 b g p l)) (a.val % 4) := by
  show FloatOps.ofBits (F := Ideal) .fp8e4m3 (bitcast ⟨4, ![n0, n1, R, n]⟩ 8 x h (ix4 b g a l)) = _
  rw [bitcast_32_8 x h (ix4 b g a l) (ix4 b g p l) a.val rfl]
  · rfl
  · intro d
    match d with
    | ⟨0, _⟩ => rfl
    | ⟨1, _⟩ => rfl
    | ⟨2, _⟩ => exact hp
    | ⟨3, _⟩ => rfl

/-- A plane of rope words read as numbers: row `a`, lane `l` is half `a % 2` of word row `a / 2`. -/
theorem half_ix2 {R r n : ℕ} (x : (⟨2, ![r, n]⟩ : Shape).Idx → BitVec 32) (h : (⟨2, ![r, n]⟩ : Shape).Bitcasts 32 ⟨2, ![R, n]⟩ 16)
    (a : Fin R) (l : Fin n) (p : Fin r) (hp : p.val = a.val / 2) :
    bitcastToFloat (F := Ideal) .bf16 (bitcast ⟨2, ![R, n]⟩ 16 x h) (ix2 a l) = half (x (ix2 p l)) (a.val % 2) := by
  show FloatOps.ofBits (F := Ideal) .bf16 (bitcast ⟨2, ![R, n]⟩ 16 x h (ix2 a l)) = _
  rw [bitcast_32_16' x h (ix2 a l) (ix2 p l) a.val rfl]
  · rfl
  · intro b
    match b with
    | ⟨0, _⟩ => exact hp
    | ⟨1, _⟩ => rfl

/-- The same for an array of such planes over one leading axis. -/
theorem half_ix3 {n0 R r n : ℕ} (x : (⟨3, ![n0, r, n]⟩ : Shape).Idx → BitVec 32)
    (h : (⟨3, ![n0, r, n]⟩ : Shape).Bitcasts 32 ⟨3, ![n0, R, n]⟩ 16)
    (b : Fin n0) (a : Fin R) (l : Fin n) (p : Fin r) (hp : p.val = a.val / 2) :
    bitcastToFloat (F := Ideal) .bf16 (bitcast ⟨3, ![n0, R, n]⟩ 16 x h) (ix3 b a l) = half (x (ix3 b p l)) (a.val % 2) := by
  show FloatOps.ofBits (F := Ideal) .bf16 (bitcast ⟨3, ![n0, R, n]⟩ 16 x h (ix3 b a l)) = _
  rw [bitcast_32_16' x h (ix3 b a l) (ix3 b p l) a.val rfl]
  · rfl
  · intro d
    match d with
    | ⟨0, _⟩ => rfl
    | ⟨1, _⟩ => exact hp
    | ⟨2, _⟩ => rfl

end Cert.Mla

end
-- ==== Proof.Attention.lean ====
/-
  The mathematics: attention of one query head over 512 cached tokens and one new token, over the extended reals. Both
  programs are read against these formulas. `attend` treats the new token beside the cached ones; `top_joined` and
  `total_joined` say that the maximum and the sum over the 513 scores laid end to end are the same two numbers.
-/
module

public import Idealize.ShloMosaic.PureOps.Ideal
public import Idealize.ShloMosaic.PureOps.Ideal.Laws
public import Mathlib.Data.Finset.Fold
public import Mathlib.Algebra.BigOperators.Fin

@[expose] public section

noncomputable section

namespace Cert.Mla

open Idealize.ShloMosaic
open scoped BigOperators

/-- The softmax scale, the f32 nearest to 1/√192. -/
def smScale : EReal := Ideal.ofBits .f32 0x3D93CD3A#32

/-- The score of a token that is masked out: f32's -∞. -/
def masked : EReal := Ideal.ofBits .f32 0xFF800000#32

/-- The score of one token: the latent product plus the rope product, scaled. -/
def score (q : Fin 512 → EReal) (qr : Fin 64 → EReal) (k : Fin 512 → EReal) (kr : Fin 64 → EReal) : EReal :=
  ((∑ c, q c * k c) + ∑ r, qr r * kr r) * smScale

/-- The score of a gathered token: the score where the token's cache index is not negative, masked elsewhere. -/
def scoreAt (i : BitVec 32) (s : EReal) : EReal := Scalar.select (IntOp.cmpi .sge i 0#32) s masked

/-- The largest score. -/
def top (s : Fin 512 → EReal) (sn : EReal) : EReal := max ((Finset.univ : Finset (Fin 512)).fold max masked s) sn

/-- The softmax's denominator. -/
def total (s : Fin 512 → EReal) (sn : EReal) : EReal :=
  (∑ t, Ideal.exp (s t - top s sn)) + Ideal.exp (sn - top s sn)

/-- The softmax weight of a token with score `z`. -/
def weight (s : Fin 512 → EReal) (sn : EReal) (z : EReal) : EReal := Ideal.div (Ideal.exp (z - top s sn)) (total s sn)

/-- One channel of the result: the weighted values of the cached tokens plus the new token's. -/
def attend (s : Fin 512 → EReal) (sn : EReal) (v : Fin 512 → EReal) (vn : EReal) : EReal :=
  (∑ t, weight s sn (s t) * v t) + weight s sn sn * vn

/-- Equal operands score alike. -/
theorem score_congr {q q' k k' : Fin 512 → EReal} {qr qr' kr kr' : Fin 64 → EReal} (hq : ∀ c, q c = q' c) (hqr : ∀ r, qr r = qr' r)
    (hk : ∀ c, k c = k' c) (hkr : ∀ r, kr r = kr' r) : score q qr k kr = score q' qr' k' kr' := by
  obtain rfl := funext hq; obtain rfl := funext hqr; obtain rfl := funext hk; obtain rfl := funext hkr; rfl

/-- Equal scores and values give equal results. -/
theorem attend_congr {s s' v v' : Fin 512 → EReal} {sn sn' vn vn' : EReal} (hs : ∀ t, s t = s' t) (hsn : sn = sn')
    (hv : ∀ t, v t = v' t) (hvn : vn = vn') : attend s sn v vn = attend s' sn' v' vn' := by
  obtain rfl := funext hs; obtain rfl := funext hv; rw [hsn, hvn]

/-- The largest of 513 scores laid end to end, taken once more against the masked score, is `top`. -/
theorem top_joined (z : Fin 513 → EReal) :
    max masked ((Finset.univ : Finset (Fin 513)).fold max masked z) = top (fun t => z t.castSucc) (z (Fin.last 512)) := by
  have h : (Finset.univ : Finset (Fin 513)).fold max masked z
      = max (z (Fin.last 512)) ((Finset.univ : Finset (Fin 512)).fold max masked fun t => z t.castSucc) := by
    rw [Fin.univ_castSuccEmb, Finset.fold_cons, Finset.fold_map]
    rfl
  rw [h, top, max_comm (z (Fin.last 512)), ← max_assoc]
  congr 1
  exact max_eq_right (by rw [Finset.le_fold_max]; exact Or.inl le_rfl)

/-- The sum of the 513 exponentials is the denominator. -/
theorem total_joined (z : Fin 513 → EReal) :
    (∑ t, Ideal.exp (z t - top (fun t => z t.castSucc) (z (Fin.last 512)))) = total (fun t => z t.castSucc) (z (Fin.last 512)) :=
  Fin.sum_univ_castSucc _

end Cert.Mla

end
-- ==== Proof.Cache.lean ====
/-
  What the gathered cache holds for one batch row, and the row's result. Token `t` of 512 lies in group `t / 32` at place
  `t % 32`; channel `c` of 512 lies in block `c / 128` at lane `c % 128`. A group's code words are 8 rows a block, each word
  four tokens; its scales are one row, 32 lanes a block. The rope words are 32 rows a segment of 128 tokens, each word two
  channels.
-/
module

public import proofs.«01_k».proof.Proof.Words
public import proofs.«01_k».proof.Proof.Attention

@[expose] public section

noncomputable section

namespace Cert.Mla

open scoped BigOperators

/-- The latent entry of cached token `t` at channel `c`: its code times the scale of its block. -/
def latent (w : Fin 16 → Fin 32 → Fin 128 → BitVec 32) (sc : Fin 16 → Fin 128 → EReal) (t c : Fin 512) : EReal :=
  code (w ⟨t.val / 32, by omega⟩ ⟨8 * (c.val / 128) + t.val % 32 / 4, by omega⟩ ⟨c.val % 128, by omega⟩) (t.val % 4)
    * sc ⟨t.val / 32, by omega⟩ ⟨32 * (c.val / 128) + t.val % 32, by omega⟩

/-- The same entry with its word's, its byte's and its scale's coordinates named. -/
theorem latent_of (w : Fin 16 → Fin 32 → Fin 128 → BitVec 32) (sc : Fin 16 → Fin 128 → EReal) (t c : Fin 512)
    (g : Fin 16) (p : Fin 32) (l s : Fin 128) (k : ℕ) (hg : g.val = t.val / 32) (hp : p.val = 8 * (c.val / 128) + t.val % 32 / 4)
    (hl : l.val = c.val % 128) (hs : s.val = 32 * (c.val / 128) + t.val % 32) (hk : k = t.val % 4) :
    code (w g p l) k * sc g s = latent w sc t c := by
  unfold latent
  rw [show g = ⟨t.val / 32, _⟩ from Fin.ext hg, show p = ⟨8 * (c.val / 128) + t.val % 32 / 4, _⟩ from Fin.ext hp,
    show l = ⟨c.val % 128, _⟩ from Fin.ext hl, show s = ⟨32 * (c.val / 128) + t.val % 32, _⟩ from Fin.ext hs, hk]

/-- The rope key of cached token `t` at rope channel `r`. -/
def ropeKey (w : Fin 128 → Fin 128 → BitVec 32) (t : Fin 512) (r : Fin 64) : EReal :=
  half (w ⟨32 * (t.val / 128) + r.val / 2, by omega⟩ ⟨t.val % 128, by omega⟩) (r.val % 2)

/-- The same entry with its word's and its half's coordinates named. -/
theorem ropeKey_of (w : Fin 128 → Fin 128 → BitVec 32) (t : Fin 512) (r : Fin 64) (p l : Fin 128) (k : ℕ)
    (hp : p.val = 32 * (t.val / 128) + r.val / 2) (hl : l.val = t.val % 128) (hk : k = r.val % 2) :
    half (w p l) k = ropeKey w t r := by
  unfold ropeKey
  rw [show p = ⟨32 * (t.val / 128) + r.val / 2, _⟩ from Fin.ext hp, show l = ⟨t.val % 128, _⟩ from Fin.ext hl, hk]

/-- The new token's latent entry at channel `c`: its code times the scale of its block. -/
def newLatent (x : Fin 512 → EReal) (s : Fin 4 → EReal) (c : Fin 512) : EReal := x c * s ⟨c.val / 128, by omega⟩

/-- One channel of one head's result, from a batch row's operands: the new token's block scales `ns`, the head's latent and
    rope queries `q` and `qr`, the cache indices `idx`, the row's code words `w`, scales `sc` and rope words `rw`, the new
    token's codes `nc` and rope key `nr`. -/
def result (ns : Fin 4 → EReal) (q : Fin 512 → EReal) (qr : Fin 64 → EReal) (idx : Fin 512 → BitVec 32)
    (w : Fin 16 → Fin 32 → Fin 128 → BitVec 32) (sc : Fin 16 → Fin 128 → EReal) (rw : Fin 128 → Fin 128 → BitVec 32)
    (nc : Fin 512 → EReal) (nr : Fin 64 → EReal) (c : Fin 512) : EReal :=
  attend (fun t => scoreAt (idx t) (score q qr (latent w sc t) (ropeKey rw t))) (score q qr (newLatent nc ns) nr)
    (fun t => latent w sc t c) (newLatent nc ns c)

/-- Equal operands give equal results. -/
theorem result_congr {ns ns' : Fin 4 → EReal} {q q' : Fin 512 → EReal} {qr qr' : Fin 64 → EReal} {idx idx' : Fin 512 → BitVec 32}
    {w w' : Fin 16 → Fin 32 → Fin 128 → BitVec 32} {sc sc' : Fin 16 → Fin 128 → EReal} {rw rw' : Fin 128 → Fin 128 → BitVec 32}
    {nc nc' : Fin 512 → EReal} {nr nr' : Fin 64 → EReal} (h0 : ∀ k, ns k = ns' k) (h1 : ∀ c, q c = q' c) (h2 : ∀ r, qr r = qr' r)
    (h3 : ∀ t, idx t = idx' t) (h4 : ∀ g p l, w g p l = w' g p l) (h5 : ∀ g l, sc g l = sc' g l) (h6 : ∀ p l, rw p l = rw' p l)
    (h7 : ∀ c, nc c = nc' c) (h8 : ∀ r, nr r = nr' r) (c : Fin 512) :
    result ns q qr idx w sc rw nc nr c = result ns' q' qr' idx' w' sc' rw' nc' nr' c := by
  obtain rfl := funext h0; obtain rfl := funext h1; obtain rfl := funext h2; obtain rfl := funext h3
  obtain rfl := funext fun g => funext fun p => funext (h4 g p); obtain rfl := funext fun g => funext (h5 g)
  obtain rfl := funext fun p => funext (h6 p); obtain rfl := funext h7; obtain rfl := funext h8
  rfl

end Cert.Mla

end
-- ==== Proof.Shapes.lean ====
/-
  Layout operations read at an index, for the shapes the two programs use: a column spread over lanes, and four arrays laid
  side by side along the lanes.
-/
module

public import Idealize.ShloMosaic.Lib.ValueLayout
public import Idealize.ShloMosaic.Lib.ValueLayoutCasts
public import Idealize.ShloMosaic.Lib.Pipeline.Value

@[expose] public section

noncomputable section

namespace Cert.Mla

open Idealize.ShloMosaic Idealize.ShloMosaic.ValueIdx

variable {α : Type}

/-- An `[a, 1]` column broadcast to `[a, b]` reads, at `(i, j)`, the column at `i`. -/
theorem broadcastTo_column {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Four `[a, 128]` arrays side by side read, at `(i, j)`, array `j / 128` at lane `j % 128`. -/
theorem concatenate_four {a : ℕ} (x : Fin 4 → ((⟨2, ![a, 128]⟩ : Shape).Idx → α))
    (h : Shape.Concatenates [⟨2, ![a, 128]⟩, ⟨2, ![a, 128]⟩, ⟨2, ![a, 128]⟩, ⟨2, ![a, 128]⟩] ⟨2, ![a, 512]⟩ 1) (i : Fin a) (j : Fin 512) :
    concatenate (⟨2, ![a, 512]⟩ : Shape) 1 [⟨⟨2, ![a, 128]⟩, x 0⟩, ⟨⟨2, ![a, 128]⟩, x 1⟩, ⟨⟨2, ![a, 128]⟩, x 2⟩, ⟨⟨2, ![a, 128]⟩, x 3⟩] h (ix2 i j)
      = x ⟨j.val / 128, by omega⟩ (ix2 i ⟨j.val % 128, by omega⟩) :=
  concatenate_ofFn_apply (t := ⟨2, ![a, 512]⟩) (s₁ := ⟨2, ![a, 128]⟩) 1 x h rfl 128 rfl (ix2 i j) ⟨j.val / 128, by omega⟩ rfl
    (ix2 i ⟨j.val % 128, by omega⟩) rfl fun b hb => by
      match b with
      | ⟨0, _⟩ => rfl
      | ⟨1, _⟩ => exact absurd rfl hb

end Cert.Mla

end
-- ==== Proof.KernelRow.lean ====
/-
  What the kernel's block computes once the cache block `kv` is laid out: each value it names, read at an index.
-/
module

public import proofs.«01_k».proof.Proof.Gen.KernelIdeal.Skeleton
public import proofs.«01_k».proof.Proof.Cache
public import proofs.«01_k».proof.Proof.Shapes
public import Idealize.ShloMosaic.Lib.MatmulPlain
public import Idealize.ShloMosaic.Lib.ValueIdx

@[expose] public section

noncomputable section

namespace Cert.Mla

open Idealize.ShloMosaic Idealize.ShloMosaic.ValueIdx
open Cert.KernelIdeal Cert.KernelIdeal.Gen
open scoped BigOperators

/-- The latent product: every head against every cached token. -/
theorem latent_product (q : FVec Ideal S32x512 .bf16) (kv : Vec Ideal S512x512 .bf16) (h : Fin 32) (t : Fin 512) :
    k0_pay82 (F := Ideal) q kv (ix2 h t) = ∑ c, q (ix2 h c) * kv (ix2 t c) := by
  unfold k0_pay82
  refine (Ideal.matmul_transposedRhs_apply (M := 32) (K := 512) (N := 512) none q kv _ h t).trans ?_
  show Ideal.ofBits .f32 0x00000000#32 + _ = _
  rw [Ideal.ofBits_zero_f32, zero_add]

/-- The rope product over one segment of 128 tokens. -/
theorem rope_product (qr : FVec Ideal S32x64 .bf16) (w : Vec Ideal S1x32x128 .i32) (h : Fin 32) (l : Fin 128) :
    k0_pay83 (F := Ideal) qr w (ix2 h l)
      = ∑ r : Fin 64, qr (ix2 h r) * half (w (ix3 (0 : Fin 1) (⟨r.val / 2, by omega⟩ : Fin 32) l)) (r.val % 2) := by
  unfold k0_pay83
  refine (Ideal.matmul_plain_apply (M := 32) (K := 64) (N := 128) none qr _ _ h l).trans ?_
  show Ideal.ofBits .f32 0x00000000#32 + _ = _
  rw [Ideal.ofBits_zero_f32, zero_add]
  refine Finset.sum_congr rfl fun r _ => ?_
  congr 1
  refine (half_ix2 _ bitcasts_S32x128_w32_S64x128_w16 r l (⟨r.val / 2, by omega⟩ : Fin 32) rfl).trans ?_
  rw [shapeCast_1ab_ab_apply]

/-- The masked scores of the cached tokens. -/
theorem cached_scores (qr : FVec Ideal S32x64 .bf16) (p : FVec Ideal S32x512 .f32) (w : Fin 4 → Vec Ideal S1x32x128 .i32)
    (idx : Vec Ideal S1x1x512 .i32) (h : Fin 32) (t : Fin 512) :
    k0_pay86 (F := Ideal) qr p (k0_pay83 qr (w 0)) (k0_pay84 qr (w 1)) (k0_pay85 qr (w 2)) (w 3) idx (ix2 h t)
      = scoreAt (idx (ix3 (0 : Fin 1) (0 : Fin 1) t))
          ((p (ix2 h t) + ∑ r : Fin 64, qr (ix2 h r)
            * half (w ⟨t.val / 128, by omega⟩ (ix3 (0 : Fin 1) (⟨r.val / 2, by omega⟩ : Fin 32) (⟨t.val % 128, by omega⟩ : Fin 128))) (r.val % 2))
            * smScale) := by
  have hc := concatenate_four (fun n : Fin 4 => k0_pay83 (F := Ideal) qr (w n)) concatenates_S32x128_S32x128_S32x128_S32x128_S32x512_d1 h t
  rw [rope_product] at hc
  have hi := shapeCast_1ab_ab_apply (a := 1) (b := 512) idx shapeCasts_S1x1x512_S1x512 0 t
  rw [← hi, ← hc]
  unfold k0_pay86
  rw [select_apply, broadcastTo_1b_ab_apply, shapeCast_self]
  rfl

/-- One block of the new token's latent: its codes times the block's scale. -/
theorem new_block (x : Vec Ideal S1x1x128 .fp8e4m3) (s : EReal) (u : Fin 1) (l : Fin 128) :
    k0_pay87 (F := Ideal) x s (ix2 u l) = x (ix3 (0 : Fin 1) u l) * s := by
  unfold k0_pay87
  rw [mulf_apply, extf_apply, truncf_apply, shapeCast_1ab_ab_apply]
  rfl

/-- The new token's latent, its four blocks side by side. -/
theorem new_row (x : Fin 4 → Vec Ideal S1x1x128 .fp8e4m3) (s : Fin 4 → EReal) (u : Fin 1) (c : Fin 512) :
    k0_pay90 (F := Ideal) (k0_pay87 (x 0) (s 0)) (k0_pay88 (x 1) (s 1)) (k0_pay89 (x 2) (s 2)) (x 3) (s 3) (ix2 u c)
      = x ⟨c.val / 128, by omega⟩ (ix3 (0 : Fin 1) u (⟨c.val % 128, by omega⟩ : Fin 128)) * s ⟨c.val / 128, by omega⟩ := by
  have hc := concatenate_four (fun n : Fin 4 => k0_pay87 (F := Ideal) (x n) (s n)) concatenates_S1x128_S1x128_S1x128_S1x128_S1x512_d1 u c
  rw [new_block] at hc
  exact hc

/-- A row sum kept as a column. -/
theorem row_sum {n : ℕ} (v : FVec Ideal ⟨2, ![32, n]⟩ .f32) (h : (⟨2, ![32, n]⟩ : Shape).Reduces [1] S32) (hφ hacc)
    (i : Fin 32) (u : Fin 1) :
    shapeCast S32x1 (multiReduction (F := Ideal) .add [1] S32 v 0x00000000#32 h hφ hacc) shapeCasts_S32_S32x1 (ix2 i u)
      = ∑ k : Fin n, v (ix2 i k) := by
  refine (shapeCast_a_a1_apply (a := 32) _ shapeCasts_S32_S32x1 i u).trans ?_
  refine (Ideal.multiReduction_add_single v _ h hφ hacc (ix1 i)).trans ?_
  refine Finset.sum_congr rfl fun k _ => congrArg v ?_
  funext a
  match a with
  | ⟨0, _⟩ => rfl
  | ⟨1, _⟩ => rfl

section Softmax
variable (q : FVec Ideal S32x512 .bf16) (qr : FVec Ideal S32x64 .bf16) (s : FVec Ideal S32x512 .f32)
  (n0 n1 n2 : FVec Ideal S1x128 .bf16) (x3 : Vec Ideal S1x1x128 .fp8e4m3) (s3 : Elt Ideal .f32) (kr : Vec Ideal S1x1x64 .bf16)

/-- The new token's score. -/
theorem new_score (h : Fin 32) (u : Fin 1) :
    k0_pay91 (F := Ideal) q qr n0 n1 n2 x3 s3 kr (ix2 h u)
      = score (fun c => q (ix2 h c)) (fun r => qr (ix2 h r)) (fun c => k0_pay90 (F := Ideal) n0 n1 n2 x3 s3 (ix2 (0 : Fin 1) c))
          (fun r => kr (ix3 (0 : Fin 1) (0 : Fin 1) r)) := by
  unfold k0_pay91
  refine congrArg (· * smScale) (congrArg₂ (· + ·) ((row_sum _ reduces_S32x512_S32 _ _ h u).trans ?_)
    ((row_sum _ reduces_S32x64_S32 _ _ h u).trans ?_))
  · refine Finset.sum_congr rfl fun c _ => ?_
    rw [mulf_apply, broadcastTo_1b_ab_apply]
    rfl
  · refine Finset.sum_congr rfl fun r _ => ?_
    rw [mulf_apply, broadcastTo_1b_ab_apply, extf_apply, extf_apply, shapeCast_1ab_ab_apply]

/-- The largest score. -/
theorem max_score (h : Fin 32) (u : Fin 1) :
    k0_pay92 (F := Ideal) q qr s n0 n1 n2 x3 s3 kr (ix2 h u)
      = top (fun t => s (ix2 h t)) (k0_pay91 (F := Ideal) q qr n0 n1 n2 x3 s3 kr (ix2 h u)) := by
  unfold k0_pay92
  unfold top
  refine congrArg (fun z : EReal => max z (k0_pay91 (F := Ideal) q qr n0 n1 n2 x3 s3 kr (ix2 h u))) ?_
  refine (shapeCast_a_a1_apply (a := 32) _ shapeCasts_S32_S32x1 h u).trans ?_
  refine (Ideal.multiReduction_maximumf_single s _ reduces_S32x512_S32 _ _ (ix1 h)).trans ?_
  refine congrArg (fun f : Fin 512 → EReal => (Finset.univ : Finset (Fin 512)).fold max masked f) (funext fun k => congrArg s ?_)
  funext a
  match a with
  | ⟨0, _⟩ => rfl
  | ⟨1, _⟩ => rfl

/-- The exponentials of the cached tokens' scores. -/
theorem cached_exp (h : Fin 32) (t : Fin 512) :
    k0_pay93 (F := Ideal) q qr s n0 n1 n2 x3 s3 kr (ix2 h t)
      = Ideal.exp (s (ix2 h t) - top (fun t => s (ix2 h t)) (k0_pay91 (F := Ideal) q qr n0 n1 n2 x3 s3 kr (ix2 h (0 : Fin 1)))) := by
  rw [← max_score]
  unfold k0_pay93
  show Ideal.exp (s (ix2 h t) - broadcastTo S32x512 _ _ (ix2 h t)) = _
  rw [broadcastTo_column]

/-- The exponential of the new token's score. -/
theorem new_exp (h : Fin 32) (u : Fin 1) :
    k0_pay94 (F := Ideal) q qr s n0 n1 n2 x3 s3 kr (ix2 h u)
      = Ideal.exp (k0_pay91 (F := Ideal) q qr n0 n1 n2 x3 s3 kr (ix2 h u)
          - top (fun t => s (ix2 h t)) (k0_pay91 (F := Ideal) q qr n0 n1 n2 x3 s3 kr (ix2 h u))) := by
  rw [← max_score]
  rfl

/-- The denominator. -/
theorem denominator (h : Fin 32) :
    k0_pay95 (F := Ideal) q qr s n0 n1 n2 x3 s3 kr (ix2 h (0 : Fin 1))
      = total (fun t => s (ix2 h t)) (k0_pay91 (F := Ideal) q qr n0 n1 n2 x3 s3 kr (ix2 h (0 : Fin 1))) := by
  unfold k0_pay95
  refine congrArg₂ (· + ·) ((row_sum _ reduces_S32x512_S32 _ _ h 0).trans ?_) (new_exp q qr s n0 n1 n2 x3 s3 kr h 0)
  exact Finset.sum_congr rfl fun t _ => cached_exp q qr s n0 n1 n2 x3 s3 kr h t

/-- The weighted values of the cached tokens. -/
theorem cached_values (kv : Vec Ideal S512x512 .bf16) (h : Fin 32) (c : Fin 512) :
    k0_pay96 (F := Ideal) q qr s n0 n1 n2 x3 s3 kr kv (ix2 h c)
      = ∑ t, weight (fun t => s (ix2 h t)) (k0_pay91 (F := Ideal) q qr n0 n1 n2 x3 s3 kr (ix2 h (0 : Fin 1))) (s (ix2 h t))
          * kv (ix2 t c) := by
  unfold k0_pay96
  refine (Ideal.matmul_plain_apply (M := 32) (K := 512) (N := 512) none _ kv _ h c).trans ?_
  show Ideal.ofBits .f32 0x00000000#32 + _ = _
  rw [Ideal.ofBits_zero_f32, zero_add]
  refine Finset.sum_congr rfl fun t _ => ?_
  congr 1
  show Ideal.div (k0_pay93 (F := Ideal) q qr s n0 n1 n2 x3 s3 kr (ix2 h t)) (broadcastTo S32x512 _ _ (ix2 h t)) = _
  rw [broadcastTo_column, cached_exp, denominator]
  rfl

/-- The new token's weight. -/
theorem new_weight (h : Fin 32) :
    k0_pay97 (F := Ideal) q qr s n0 n1 n2 x3 s3 kr (ix2 h (0 : Fin 1))
      = weight (fun t => s (ix2 h t)) (k0_pay91 (F := Ideal) q qr n0 n1 n2 x3 s3 kr (ix2 h (0 : Fin 1)))
          (k0_pay91 (F := Ideal) q qr n0 n1 n2 x3 s3 kr (ix2 h (0 : Fin 1))) := by
  show Ideal.div (k0_pay94 (F := Ideal) q qr s n0 n1 n2 x3 s3 kr (ix2 h (0 : Fin 1))) (k0_pay95 (F := Ideal) q qr s n0 n1 n2 x3 s3 kr (ix2 h (0 : Fin 1))) = _
  rw [new_exp, denominator]
  rfl

end Softmax

/-- The stored block: the cached tokens' part plus the new token's. -/
theorem stored (kn : FVec Ideal S1x512 .bf16) (o : FVec Ideal S32x512 .f32) (p : FVec Ideal S32x1 .f32) (u : Fin 1) (h : Fin 32) (c : Fin 512) :
    k0_pay1 (F := Ideal) kn o p (ix3 u h c) = o (ix2 h c) + p (ix2 h (0 : Fin 1)) * kn (ix2 (0 : Fin 1) c) := by
  unfold k0_pay1
  refine (shapeCast_ab_1ab_apply (a := 32) (b := 512) _ shapeCasts_S32x512_S1x32x512 u h c).trans ?_
  show o (ix2 h c) + broadcastTo S32x512 p _ (ix2 h c) * broadcastTo S32x512 _ _ (ix2 h c) = _
  rw [broadcastTo_column, broadcastTo_1b_ab_apply]
  rfl

/-- One channel of one head of the stored block, from the scores `s` of the cached tokens and the cache block `kv`. -/
theorem stored_attend (q : FVec Ideal S32x512 .bf16) (qr : FVec Ideal S32x64 .bf16) (s : FVec Ideal S32x512 .f32)
    (n0 n1 n2 : FVec Ideal S1x128 .bf16) (x3 : Vec Ideal S1x1x128 .fp8e4m3) (s3 : Elt Ideal .f32) (kr : Vec Ideal S1x1x64 .bf16)
    (kv : Vec Ideal S512x512 .bf16) (u : Fin 1) (h : Fin 32) (c : Fin 512) :
    k0_pay1 (F := Ideal) (k0_pay90 n0 n1 n2 x3 s3) (k0_pay96 q qr s n0 n1 n2 x3 s3 kr kv) (k0_pay97 q qr s n0 n1 n2 x3 s3 kr) (ix3 u h c)
      = attend (fun t => s (ix2 h t))
          (score (fun c => q (ix2 h c)) (fun r => qr (ix2 h r)) (fun c => k0_pay90 (F := Ideal) n0 n1 n2 x3 s3 (ix2 (0 : Fin 1) c))
            (fun r => kr (ix3 (0 : Fin 1) (0 : Fin 1) r)))
          (fun t => kv (ix2 t c)) (k0_pay90 (F := Ideal) n0 n1 n2 x3 s3 (ix2 (0 : Fin 1) c)) := by
  rw [stored, cached_values, new_weight, new_score]
  rfl

end Cert.Mla

end
-- ==== Proof.KernelCache.lean ====
/-
  The cache block the kernel lays out in its scratch: 64 tiles of 32 tokens by 128 channels, each the codes of one group and
  block times their scales. Every tile is a tile of one array, `cacheBlock`, and the tiles cover it.
-/
module

public import proofs.«01_k».proof.Proof.Gen.KernelIdeal.Value
public import proofs.«01_k».proof.Proof.Cache
public import proofs.«01_k».proof.Proof.Shapes
public import Idealize.ShloMosaic.Lib.Pipeline.ValueKit.Tiles
public import Idealize.ShloMosaic.Lib.ValueIdx

@[expose] public section

noncomputable section

namespace Cert.Mla

open Idealize.ShloMosaic Idealize.ShloMosaic.ValueIdx
open Cert.KernelIdeal Cert.KernelIdeal.Gen

/-- The latent entries of a batch row, from the row's block of code words and its block of scales. -/
def cacheBlock (x4 : Vec Ideal S1x16x32x128 .i32) (x5 : Vec Ideal S1x16x128 .f32) : Vec Ideal S512x512 .bf16 := fun y =>
  latent (fun g p l => x4 (ix4 (0 : Fin 1) g p l)) (fun g l => x5 (ix3 (0 : Fin 1) g l)) (y 0) (y 1)

/-- One tile: group `g`'s words from row `oW` on, times the group's scales from lane `oS` on, is the tile of `cacheBlock`
    at row `oT` and column `oC`. -/
theorem tile_apply (x4 : Vec Ideal S1x16x32x128 .i32) (x5 : Vec Ideal S1x16x128 .f32) (g oW oS oT oC : ℕ)
    (hs : S128x16.Slices ![oS, g] S32x1)
    (inbW : ∀ a, (![0, g, oW, 0] : Fin 4 → ℕ) a + S1x1x8x128.size a ≤ S1x16x32x128.size a)
    (inbS : ∀ a, (![0, 0, 0] : Fin 3 → ℕ) a + S1x16x128.size a ≤ S1x16x128.size a)
    (inbT : ∀ a, (![oT, oC] : Fin 2 → ℕ) a + S32x128.size a ≤ S512x512.size a)
    (hT : oT = 32 * g) (hW : oW = 8 * (oW / 8)) (hS : oS = 32 * (oW / 8)) (hC : oC = 128 * (oW / 8))
    (x : (Rect.unit (s := S512x512) ![oT, oC] S32x128.size inbT).shape.Idx) :
    shapeCast S32x128 (mulf (F := Ideal) (φ := .bf16)
        (extf .bf16 (bitcastToFloat .fp8e4m3 (bitcast S32x128 8
          (shapeCast S8x128 (View.ld x4 (Rect.unit (s := S1x16x32x128) ![0, g, oW, 0] S1x1x8x128.size inbW)) shapeCasts_S1x1x8x128_S8x128)
          bitcasts_S8x128_w32_S32x128_w8)) bitsLt_fp8e4m3_bf16)
        (broadcastTo S32x128 (truncf .bf16 (extractStridedSlice S32x1 ![oS, g]
          (k0_pay4 (F := Ideal) (View.ld x5 (Rect.unit (s := S1x16x128) ![0, 0, 0] S1x16x128.size inbS))) hs) bitsLt_bf16_f32)
          broadcasts_S32x1_S32x128)) shapeCasts_S32x128_S32x128 x
      = cacheBlock x4 x5 ((Rect.unit (s := S512x512) ![oT, oC] S32x128.size inbT).emb x) := by
  obtain ⟨a, l, rfl⟩ : ∃ (a : Fin 32) (l : Fin 128), x = ix2 a l := ⟨x 0, x 1, eq_ix2 x⟩
  have hg : g < 16 := by have := inbW 1; simpa using this
  have hw : oW < 32 := by have h := inbW 2; have h' : oW + 8 ≤ 32 := h; omega
  rw [shapeCast_self, mulf_apply]
  have e1 : extf (F := Ideal) (φ := .fp8e4m3) .bf16 (bitcastToFloat .fp8e4m3 (bitcast S32x128 8
          (shapeCast S8x128 (View.ld x4 (Rect.unit (s := S1x16x32x128) ![0, g, oW, 0] S1x1x8x128.size inbW)) shapeCasts_S1x1x8x128_S8x128)
          bitcasts_S8x128_w32_S32x128_w8)) bitsLt_fp8e4m3_bf16 (ix2 a l)
      = code (x4 (ix4 (0 : Fin 1) (⟨g, hg⟩ : Fin 16) (⟨oW + a.val / 4, by omega⟩ : Fin 32) l)) (a.val % 4) := by
    rw [extf_apply]
    refine (code_ix2 _ bitcasts_S8x128_w32_S32x128_w8 a l (⟨a.val / 4, by omega⟩ : Fin 8) rfl).trans ?_
    congr 1
    refine (shapeCast_apply _ _ (ix2 (⟨a.val / 4, by omega⟩ : Fin 8) l) (ix4 (0 : Fin 1) (0 : Fin 1) (⟨a.val / 4, by omega⟩ : Fin 8) l) ?_).trans ?_
    · rw [Shape.rowMajor_val_four, Shape.rowMajor_val_two]
      show ((0 * 1 + 0) * 8 + a.val / 4) * 128 + l.val = a.val / 4 * 128 + l.val
      omega
    · refine View.ld_unit_apply_of x4 _ _ inbW _ _ fun b => ?_
      match b with
      | ⟨0, _⟩ => rfl
      | ⟨1, _⟩ => rfl
      | ⟨2, _⟩ => rfl
      | ⟨3, _⟩ => exact (Nat.zero_add _).symm
  have e2 : broadcastTo S32x128 (truncf (F := Ideal) (φ := .f32) .bf16 (extractStridedSlice S32x1 ![oS, g]
          (k0_pay4 (F := Ideal) (View.ld x5 (Rect.unit (s := S1x16x128) ![0, 0, 0] S1x16x128.size inbS))) hs) bitsLt_bf16_f32)
          broadcasts_S32x1_S32x128 (ix2 a l)
      = x5 (ix3 (0 : Fin 1) (⟨g, hg⟩ : Fin 16) (⟨oS + a.val, by omega⟩ : Fin 128)) := by
    refine (broadcastTo_column (a := 32) (b := 128) _ broadcasts_S32x1_S32x128 a l).trans ?_
    rw [truncf_apply]
    refine (extractStridedSlice_apply _ _ hs _ (ix2 (⟨oS + a.val, by omega⟩ : Fin 128) (⟨g, hg⟩ : Fin 16)) ?_).trans ?_
    · intro b
      match b with
      | ⟨0, _⟩ => rfl
      | ⟨1, _⟩ => rfl
    unfold k0_pay4
    refine (transpose_ix2_apply _ transposes_S16x128_p1_0_S128x16 _ _).trans ?_
    refine (shapeCast_1ab_ab_apply _ shapeCasts_S1x16x128_S16x128 _ _).trans ?_
    refine View.ld_unit_apply_of x5 _ _ inbS _ _ fun b => ?_
    match b with
    | ⟨0, _⟩ => rfl
    | ⟨1, _⟩ => exact (Nat.zero_add _).symm
    | ⟨2, _⟩ => exact (Nat.zero_add _).symm
  refine (congrArg₂ (· * ·) e1 e2).trans ?_
  have h0 : (((Rect.unit (s := S512x512) ![oT, oC] S32x128.size inbT).emb (ix2 a l)) 0).val = oT + a.val := Rect.idx_unit_val _ _ inbT _ 0
  have h1 : (((Rect.unit (s := S512x512) ![oT, oC] S32x128.size inbT).emb (ix2 a l)) 1).val = oC + l.val := Rect.idx_unit_val _ _ inbT _ 1
  exact latent_of (fun g p l => x4 (ix4 (0 : Fin 1) g p l)) (fun g l => x5 (ix3 (0 : Fin 1) g l)) _ _ _ _ _ _ _
    (by rw [h0]; show g = _; omega) (by rw [h0, h1]; show oW + a.val / 4 = _; omega) (by rw [h1]; omega)
    (by rw [h0, h1]; show oS + a.val = _; omega) (by rw [h0]; omega)

end Cert.Mla

end
-- ==== Proof.KernelBlock.lean ====
/-
  What one block of the kernel computes: from a batch row's operands, `result` of that row, head by head and channel by
  channel.
-/
module

public import proofs.«01_k».proof.Proof.KernelRow
public import proofs.«01_k».proof.Proof.KernelCache
public import Idealize.ShloMosaic.Lib.Tactic

@[expose] public section

noncomputable section

namespace Cert.Mla

open Idealize.ShloMosaic Idealize.ShloMosaic.ValueIdx Idealize.ShloMosaic.TcCoe Idealize.SL.Sem
open Cert.KernelIdeal Cert.KernelIdeal.Gen Cert.KernelIdeal.Value
open scoped BigOperators

theorem zero_offsets : (![0, 0, 0] : Fin 3 → ℕ) = fun _ => 0 := funext fun a => by fin_cases a <;> rfl

theorem zero_offsets_two : (![0, 0] : Fin 2 → ℕ) = fun _ => 0 := funext fun a => by fin_cases a <;> rfl

/-- A segment's load reads the rope words from its first row on. -/
theorem segment_load (x6 : Vec Ideal S1x128x128 .i32) (o : ℕ) (inb : ∀ a, (![0, o, 0] : Fin 3 → ℕ) a + S1x32x128.size a ≤ S1x128x128.size a)
    (p : Fin 32) (l k : Fin 128) (hk : k.val = o + p.val) :
    View.ld x6 (Rect.unit (s := S1x128x128) ![0, o, 0] S1x32x128.size inb) (ix3 (0 : Fin 1) p l) = x6 (ix3 (0 : Fin 1) k l) :=
  View.ld_unit_apply_of x6 _ _ inb _ _ fun b => match b with
    | ⟨0, _⟩ => rfl
    | ⟨1, _⟩ => hk
    | ⟨2, _⟩ => (Nat.zero_add _).symm

/-- A block's load reads the new token's codes from its first lane on. -/
theorem codes_load (x7 : Vec Ideal S1x1x512 .fp8e4m3) (o : ℕ) (inb : ∀ a, (![0, 0, o] : Fin 3 → ℕ) a + S1x1x128.size a ≤ S1x1x512.size a)
    (l : Fin 128) (k : Fin 512) (hk : k.val = o + l.val) :
    View.ld x7 (Rect.unit (s := S1x1x512) ![0, 0, o] S1x1x128.size inb) (ix3 (0 : Fin 1) (0 : Fin 1) l) = x7 (ix3 (0 : Fin 1) (0 : Fin 1) k) :=
  View.ld_unit_apply_of x7 _ _ inb _ _ fun b => match b with
    | ⟨0, _⟩ => rfl
    | ⟨1, _⟩ => rfl
    | ⟨2, _⟩ => hk

/-- The scale word a block reads is its batch row's. -/
theorem scale_load (x0 : Vec Ideal S32x4 .f32) (n : Fin 32) (k : Fin 4) (w : ℕ) (hw : w = n.val)
    (inb : ∀ a, (![w, k.val] : Fin 2 → ℕ) a + (![1, 1] : Fin 2 → ℕ) a ≤ S32x4.size a) (h : 0 < (Rect.unit (s := S32x4) ![w, k.val] ![1, 1] inb).shape.numel) :
    View.ld x0 (Rect.unit (s := S32x4) ![w, k.val] ![1, 1] inb) (Shape.Idx.first h) = x0 (ix2 n k) :=
  View.ld_unit_apply_of x0 _ _ inb _ _ fun b => match b with
    | ⟨0, _⟩ => hw.symm
    | ⟨1, _⟩ => rfl

/-- A grid point's row number as the word the kernel computes with. -/
theorem row_word (n : Fin 32) : BitVec.toNat (Scalar.indexCast (BitVec.ofNat 32 n.val)) = n.val := by
  revert n; decide

theorem codes_inb (n : Fin 4) (a : Fin 3) : (![0, 0, 128 * n.val] : Fin 3 → ℕ) a + S1x1x128.size a ≤ S1x1x512.size a := by
  revert n a; decide

theorem rope_inb (n : Fin 4) (a : Fin 3) : (![0, 32 * n.val, 0] : Fin 3 → ℕ) a + S1x32x128.size a ≤ S1x128x128.size a := by
  revert n a; decide

theorem scale_inb {w : ℕ} {k : Fin 32} (hw : w = k.val) (n : Fin 4) (a : Fin 2) : (![w, n.val] : Fin 2 → ℕ) a + (![1, 1] : Fin 2 → ℕ) a ≤ S32x4.size a := by
  subst hw; revert k n a; decide

/-- The scratch read whole is the array its tiles are tiles of. -/
theorem scratch_read {κ : Kind} {sp : Space} (v : View sig κ sp S512x512 .bf16) (L : List (View.Piece (Elt Ideal) S512x512 .bf16))
    (inb : ∀ a, (![0, 0] : Fin 2 → ℕ) a + S512x512.size a ≤ S512x512.size a) (G : Vec Ideal S512x512 .bf16)
    (hL : ∀ p ∈ L, ∀ x : p.1.shape.Idx, p.2 x = G (p.1.emb x)) (ht : View.Piece.tiledL L S32x128.size = true) :
    v.readCov L (Rect.unit (s := S512x512) ![0, 0] S512x512.size inb) = G := by
  rw [View.readCov_eq_canon_ld _ _ _ (View.cover_of_tiledL L S32x128.size ht), View.ld_unit_zero zero_offsets_two]
  show View.canon L = G
  exact funext fun y => View.canon_apply_of_pieces G L hL y (View.cover_of_tiledL L S32x128.size ht y)

set_option maxRecDepth 16384 in
theorem block_apply (c : Dev nD) (i : grid0.Coords)
    (arg1 : Memref sig .tc .smem S32x4 .f32) (harg1 : arg1.IsWhole) (arg2 : Memref sig .tc .vmem S1x32x512 .bf16) (harg2 : arg2.IsWhole)
    (arg3 : Memref sig .tc .vmem S1x32x64 .bf16) (harg3 : arg3.IsWhole)
    (arg4 : Memref sig .tc .vmem S1x1x512 .i32) (harg4 : arg4.IsWhole)
    (arg5 : Memref sig .tc .vmem S1x16x32x128 .i32) (harg5 : arg5.IsWhole)
    (arg6 : Memref sig .tc .vmem S1x16x128 .f32) (harg6 : arg6.IsWhole)
    (arg7 : Memref sig .tc .vmem S1x128x128 .i32) (harg7 : arg7.IsWhole)
    (arg8 : Memref sig .tc .vmem S1x1x512 .fp8e4m3) (harg8 : arg8.IsWhole)
    (arg9 : Memref sig .tc .vmem S1x1x64 .bf16) (harg9 : arg9.IsWhole)
    (arg10 : Memref sig .tc .vmem S1x32x512 .bf16) (harg10 : arg10.IsWhole)
    (arg11 : Memref sig .tc .vmem S512x512 .bf16) (harg11 : arg11.IsWhole)
    (x0 : Vec Ideal S32x4 .f32) (x1 : Vec Ideal S1x32x512 .bf16) (x2 : Vec Ideal S1x32x64 .bf16) (x3 : Vec Ideal S1x1x512 .i32)
    (x4 : Vec Ideal S1x16x32x128 .i32) (x5 : Vec Ideal S1x16x128 .f32) (x6 : Vec Ideal S1x128x128 .i32) (x7 : Vec Ideal S1x1x512 .fp8e4m3)
    (x8 : Vec Ideal S1x1x64 .bf16) (u : Fin 1) (h : Fin 32) (ch : Fin 512) :
    out0_A_9 (F := Ideal) c i arg1 harg1 arg2 harg2 arg3 harg3 arg4 harg4 arg5 harg5 arg6 harg6 arg7 harg7 arg8 harg8 arg9 harg9 arg10 harg10 arg11 harg11
        x0 x1 x2 x3 x4 x5 x6 x7 x8 (ix3 u h ch)
      = result (fun k => x0 (ix2 (i 0) k)) (fun c => x1 (ix3 (0 : Fin 1) h c)) (fun r => x2 (ix3 (0 : Fin 1) h r))
          (fun t => x3 (ix3 (0 : Fin 1) (0 : Fin 1) t)) (fun g p l => x4 (ix4 (0 : Fin 1) g p l)) (fun g l => x5 (ix3 (0 : Fin 1) g l))
          (fun p l => x6 (ix3 (0 : Fin 1) p l)) (fun c => x7 (ix3 (0 : Fin 1) (0 : Fin 1) c)) (fun r => x8 (ix3 (0 : Fin 1) (0 : Fin 1) r)) ch := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  rw [View.canon_unit_zero zero_offsets]
  sl_unfold_words
  simp only [View.readAt_eq_ld, harg1.read_unread, harg2.read_unread, harg3.read_unread, harg4.read_unread, harg5.read_unread, harg6.read_unread, harg7.read_unread, harg8.read_unread, harg9.read_unread]
  rw [scratch_read arg11.view _ _ (cacheBlock x4 x5) ?tiles (by sl_kernel_rfl)]
  case tiles =>
    simp only [List.forall_mem_cons, List.not_mem_nil, false_imp_iff, implies_true, and_true]
    repeat' apply And.intro
    all_goals exact tile_apply x4 x5 _ _ _ _ _ _ _ _ _ rfl rfl rfl rfl
  have hw : BitVec.toNat (Scalar.indexCast (BitVec.ofNat 32 (i 0).val)) = (i 0).val := row_word (i 0)
  have hq : ∀ c, k0_pay2 (F := Ideal) (View.ld x1 (Rect.unit ![0, 0, 0] ![1, 32, 512] inb_S1x32x512_S1x32x512_0_0_0)) (ix2 h c) = x1 (ix3 (0 : Fin 1) h c) :=
    fun c => (shapeCast_1ab_ab_apply _ shapeCasts_S1x32x512_S32x512 h c).trans
      (congrFun (View.ld_unit_zero (S := S1x32x512) zero_offsets _ x1) _)
  have hr : ∀ r, k0_pay3 (F := Ideal) (View.ld x2 (Rect.unit ![0, 0, 0] ![1, 32, 64] inb_S1x32x64_S1x32x64_0_0_0)) (ix2 h r) = x2 (ix3 (0 : Fin 1) h r) :=
    fun r => (shapeCast_1ab_ab_apply _ shapeCasts_S1x32x64_S32x64 h r).trans
      (congrFun (View.ld_unit_zero (S := S1x32x64) zero_offsets _ x2) _)
  have hi : View.ld x3 (Rect.unit ![0, 0, 0] ![1, 1, 512] inb_S1x1x512_S1x1x512_0_0_0) = x3 := View.ld_unit_zero (S := S1x1x512) zero_offsets _ x3
  have hk : View.ld x8 (Rect.unit ![0, 0, 0] ![1, 1, 64] inb_S1x1x64_S1x1x64_0_0_0) = x8 := View.ld_unit_zero (S := S1x1x64) zero_offsets _ x8
  have hn := fun c : Fin 512 => (new_row (fun n => View.ld x7 (Rect.unit (s := S1x1x512) ![0, 0, 128 * n.val] S1x1x128.size (codes_inb n)))
    (fun n => View.ld x0 (Rect.unit (s := S32x4) ![BitVec.toNat (Scalar.indexCast (BitVec.ofNat 32 (i 0).val)), n.val] ![1, 1] (scale_inb hw n)) (Shape.Idx.first (show 0 < (⟨2, ![1, 1]⟩ : Shape).numel by decide)))
    (0 : Fin 1) c).trans (congrArg₂ (· * ·) (codes_load x7 _ _ _ c (by show _ = 128 * (c.val / 128) + c.val % 128; omega)) (scale_load x0 (i 0) _ _ hw _ _))
  have hs := fun t : Fin 512 => cached_scores (k0_pay3 (F := Ideal) (View.ld x2 (Rect.unit ![0, 0, 0] ![1, 32, 64] inb_S1x32x64_S1x32x64_0_0_0)))
    (k0_pay82 (F := Ideal) (k0_pay2 (View.ld x1 (Rect.unit ![0, 0, 0] ![1, 32, 512] inb_S1x32x512_S1x32x512_0_0_0))) (cacheBlock x4 x5))
    (fun n => View.ld x6 (Rect.unit (s := S1x128x128) ![0, 32 * n.val, 0] S1x32x128.size (rope_inb n))) x3 h t
  rw [hi, hk]
  refine (stored_attend _ _ _ _ _ _ _ _ _ _ u h ch).trans ?_
  unfold result
  refine attend_congr (fun t => (hs t).trans ?_) (score_congr hq hr hn fun r => rfl) (fun t => rfl) (hn ch)
  refine congrArg (fun z => scoreAt _ (z * smScale)) (congrArg₂ (· + ·) ?_ ?_)
  · exact (latent_product _ _ h t).trans (Finset.sum_congr rfl fun c _ => congrArg (· * _) (hq c))
  · refine Finset.sum_congr rfl fun r _ => congrArg₂ (· * ·) (hr r) ?_
    rw [segment_load x6 _ _ _ _ (⟨32 * (t.val / 128) + r.val / 2, by omega⟩ : Fin 128) rfl]
    rfl

end Cert.Mla

end
-- ==== Proof.Outcome.lean ====
/-
  The whole result as one function of the nine operands: batch row `b`, head `h`, channel `c` is `result` of row `b`'s
  operands. Both programs are shown to hold this array.
-/
module

public import proofs.«01_k».proof.Proof.Cache
public import Idealize.ShloMosaic.Lib.ValueIdxCore

@[expose] public section

noncomputable section

namespace Cert.Mla

open Idealize.ShloMosaic Idealize.ShloMosaic.ValueIdx

/-- The result array, from the new token's scales `a0`, the latent queries `a1` (a head's 512 channels end to end), the rope
    queries `a2`, the cache indices `a3`, the gathered code words `a4`, scales `a5` and rope words `a6`, the new token's codes
    `a7` and rope key `a8`. -/
def outcome (a0 : (⟨3, ![32, 1, 4]⟩ : Shape).Idx → EReal) (a1 : (⟨3, ![32, 1, 16384]⟩ : Shape).Idx → EReal)
    (a2 : (⟨4, ![32, 1, 32, 64]⟩ : Shape).Idx → EReal) (a3 : (⟨3, ![32, 1, 512]⟩ : Shape).Idx → BitVec 32)
    (a4 : (⟨4, ![32, 16, 32, 128]⟩ : Shape).Idx → BitVec 32) (a5 : (⟨3, ![32, 16, 128]⟩ : Shape).Idx → EReal)
    (a6 : (⟨3, ![32, 128, 128]⟩ : Shape).Idx → BitVec 32) (a7 : (⟨3, ![32, 1, 512]⟩ : Shape).Idx → EReal)
    (a8 : (⟨3, ![32, 1, 64]⟩ : Shape).Idx → EReal) (b h : Fin 32) (c : Fin 512) : EReal :=
  result (fun k => a0 (ix3 b (0 : Fin 1) k)) (fun j => a1 (ix3 b (0 : Fin 1) (⟨512 * h.val + j.val, by omega⟩ : Fin 16384)))
    (fun r => a2 (ix4 b (0 : Fin 1) h r)) (fun t => a3 (ix3 b (0 : Fin 1) t)) (fun g p l => a4 (ix4 b g p l))
    (fun g l => a5 (ix3 b g l)) (fun p l => a6 (ix3 b p l)) (fun j => a7 (ix3 b (0 : Fin 1) j)) (fun r => a8 (ix3 b (0 : Fin 1) r)) c

end Cert.Mla

end
-- ==== Proof.KernelValue.lean ====
/-
  What the kernel's result array holds: block `b` is batch row `b`'s, computed from row `b` of every operand, so the array is
  `outcome` of the operands.
-/
module

public import proofs.«01_k».proof.Proof.KernelBlock
public import proofs.«01_k».proof.Proof.Outcome

@[expose] public section

noncomputable section

namespace Cert.Mla

open Idealize.ShloMosaic Idealize.ShloMosaic.ValueIdx Idealize.ShloMosaic.TcCoe Idealize.SL.Sem
open Cert.KernelIdeal Cert.KernelIdeal.Gen Cert.KernelIdeal.Value
open Idealize.ShloMosaic.Pipeline (Dat)

variable (m : (ℓ : Loc nD τ sig) → Buf (Elt Ideal) ℓ)

/-- Point `t` of the grid is batch row `t`. -/
def rowOf (t : Fin cfg0.N) : Fin 32 := ⟨t.val, lt_of_lt_of_eq t.isLt N_0⟩

theorem coords_row : ∀ t : Fin cfg0.N, (grid0.coords t 0 : Fin 32) = rowOf t :=
  (by decide +kernel : ∀ t : Fin grid0.N, (grid0.coords t 0 : Fin 32) = ⟨t.val, lt_of_lt_of_eq t.isLt N_0⟩)

/-- Which block each window is on at point `t`: block `t` along the batch axis and the one block along every other. -/
theorem on_row : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0, 0] ∧ win0_5.index t = ![t.val, 0, 0]
    ∧ win0_6.index t = ![t.val, 0, 0] ∧ win0_7.index t = ![t.val, 0, 0] ∧ win0_8.index t = ![t.val, 0, 0]
    ∧ win0_9.index t = ![t.val, 0, 0] := by
  decide +kernel

/-! The three operands the host reshapes, as the windows find them. -/

theorem V_v0 (c : Dev nD) : V m c main_v0 = shapeCast S32x4 (m ((c : Thread nD τ).loc main_arg0) : Vec Ideal S32x1x4 .f32) shapeCasts_S32x1x4_S32x4 := by
  unfold V hostOps0
  after_results
  rfl

theorem V_v1 (c : Dev nD) : V m c main_v1 = shapeCast S32x32x512 (m ((c : Thread nD τ).loc main_arg1) : Vec Ideal S32x1x16384 .bf16) shapeCasts_S32x1x16384_S32x32x512 := by
  unfold V hostOps0
  after_results
  rfl

theorem V_v2 (c : Dev nD) : V m c main_v2 = shapeCast S32x32x64 (m ((c : Thread nD τ).loc main_arg2) : Vec Ideal S32x1x32x64 .bf16) shapeCasts_S32x1x32x64_S32x32x64 := by
  unfold V hostOps0
  after_results
  rfl

/-! Each operand's block at point `t` is row `t` of the operand. -/

theorem iblk0 (c : Dev nD) (t : Fin cfg0.N) (b : Fin 32) (k : Fin 4) :
    (iblk m c 0 t : Vec Ideal S32x4 .f32) (ix2 b k)
      = (m ((c : Thread nD τ).loc main_arg0) : Vec Ideal S32x1x4 .f32) (ix3 b (0 : Fin 1) k) := by
  unfold iblk
  rw [View.read_apply]
  show V m c main_v0 _ = _
  rw [V_v0]
  refine Eq.trans (congrArg _ ?_) (shapeCast_apply _ shapeCasts_S32x1x4_S32x4 (ix2 b k) (ix3 b (0 : Fin 1) k) ?_)
  swap
  · rw [Shape.rowMajor_val_three, Shape.rowMajor_val_two]
    show (b.val * 1 + 0) * 4 + k.val = b.val * 4 + k.val
    omega
  refine funext fun a => Fin.ext ?_
  have h := (on_row t).1
  match a with
  | ⟨0, _⟩ => show win0_0.index t 0 * 32 + 1 * b.val = b.val; rw [h]; show 0 * 32 + 1 * b.val = _; omega
  | ⟨1, _⟩ => show win0_0.index t 1 * 4 + 1 * k.val = k.val; rw [h]; show 0 * 4 + 1 * k.val = _; omega

theorem iblk1 (c : Dev nD) (t : Fin cfg0.N) (q : Fin 32) (j : Fin 512) :
    (iblk m c 1 t : Vec Ideal S1x32x512 .bf16) (ix3 (0 : Fin 1) q j)
      = (m ((c : Thread nD τ).loc main_arg1) : Vec Ideal S32x1x16384 .bf16) (ix3 (rowOf t) (0 : Fin 1) (⟨512 * q.val + j.val, by omega⟩ : Fin 16384)) := by
  unfold iblk
  rw [View.read_apply]
  show V m c main_v1 _ = _
  rw [V_v1]
  refine Eq.trans (congrArg _ ?_) (shapeCast_apply _ shapeCasts_S32x1x16384_S32x32x512 (ix3 (rowOf t) q j) (ix3 (rowOf t) (0 : Fin 1) (⟨512 * q.val + j.val, by omega⟩ : Fin 16384)) ?_)
  swap
  · rw [Shape.rowMajor_val_three, Shape.rowMajor_val_three]
    show (t.val * 1 + 0) * 16384 + (512 * q.val + j.val) = (t.val * 32 + q.val) * 512 + j.val
    omega
  refine funext fun a => Fin.ext ?_
  have h := (on_row t).2.1
  match a with
  | ⟨0, _⟩ => show win0_1.index t 0 * 1 + 1 * 0 = t.val; rw [h]; show t.val * 1 + 1 * 0 = _; omega
  | ⟨1, _⟩ => show win0_1.index t 1 * 32 + 1 * q.val = q.val; rw [h]; show 0 * 32 + 1 * q.val = _; omega
  | ⟨2, _⟩ => show win0_1.index t 2 * 512 + 1 * j.val = j.val; rw [h]; show 0 * 512 + 1 * j.val = _; omega

theorem iblk2 (c : Dev nD) (t : Fin cfg0.N) (q : Fin 32) (r : Fin 64) :
    (iblk m c 2 t : Vec Ideal S1x32x64 .bf16) (ix3 (0 : Fin 1) q r)
      = (m ((c : Thread nD τ).loc main_arg2) : Vec Ideal S32x1x32x64 .bf16) (ix4 (rowOf t) (0 : Fin 1) q r) := by
  unfold iblk
  rw [View.read_apply]
  show V m c main_v2 _ = _
  rw [V_v2]
  refine Eq.trans (congrArg _ ?_) (shapeCast_apply _ shapeCasts_S32x1x32x64_S32x32x64 (ix3 (rowOf t) q r) (ix4 (rowOf t) (0 : Fin 1) q r) ?_)
  swap
  · rw [Shape.rowMajor_val_four, Shape.rowMajor_val_three]
    show ((t.val * 1 + 0) * 32 + q.val) * 64 + r.val = (t.val * 32 + q.val) * 64 + r.val
    omega
  refine funext fun a => Fin.ext ?_
  have h := (on_row t).2.2.1
  match a with
  | ⟨0, _⟩ => show win0_2.index t 0 * 1 + 1 * 0 = t.val; rw [h]; show t.val * 1 + 1 * 0 = _; omega
  | ⟨1, _⟩ => show win0_2.index t 1 * 32 + 1 * q.val = q.val; rw [h]; show 0 * 32 + 1 * q.val = _; omega
  | ⟨2, _⟩ => show win0_2.index t 2 * 64 + 1 * r.val = r.val; rw [h]; show 0 * 64 + 1 * r.val = _; omega

theorem iblk3 (c : Dev nD) (t : Fin cfg0.N) (j : Fin 512) :
    (iblk m c 3 t : Vec Ideal S1x1x512 .i32) (ix3 (0 : Fin 1) (0 : Fin 1) j)
      = (m ((c : Thread nD τ).loc main_arg3) : Vec Ideal S32x1x512 .i32) (ix3 (rowOf t) (0 : Fin 1) j) := by
  unfold iblk
  rw [View.read_apply]
  show V m c main_arg3 _ = _
  rw [V_main_arg3]
  refine congrArg (m ((c : Thread nD τ).loc main_arg3)) (funext fun a => Fin.ext ?_)
  have h := (on_row t).2.2.2.1
  match a with
  | ⟨0, _⟩ => show win0_3.index t 0 * 1 + 1 * 0 = t.val; rw [h]; show t.val * 1 + 1 * 0 = _; omega
  | ⟨1, _⟩ => show win0_3.index t 1 * 1 + 1 * 0 = 0; rw [h]; show 0 * 1 + 1 * 0 = _; omega
  | ⟨2, _⟩ => show win0_3.index t 2 * 512 + 1 * j.val = j.val; rw [h]; show 0 * 512 + 1 * j.val = _; omega

theorem iblk4 (c : Dev nD) (t : Fin cfg0.N) (g : Fin 16) (p : Fin 32) (l : Fin 128) :
    (iblk m c 4 t : Vec Ideal S1x16x32x128 .i32) (ix4 (0 : Fin 1) g p l)
      = (m ((c : Thread nD τ).loc main_arg4) : Vec Ideal S32x16x32x128 .i32) (ix4 (rowOf t) g p l) := by
  unfold iblk
  rw [View.read_apply]
  show V m c main_arg4 _ = _
  rw [V_main_arg4]
  refine congrArg (m ((c : Thread nD τ).loc main_arg4)) (funext fun a => Fin.ext ?_)
  have h := (on_row t).2.2.2.2.1
  match a with
  | ⟨0, _⟩ => show win0_4.index t 0 * 1 + 1 * 0 = t.val; rw [h]; show t.val * 1 + 1 * 0 = _; omega
  | ⟨1, _⟩ => show win0_4.index t 1 * 16 + 1 * g.val = g.val; rw [h]; show 0 * 16 + 1 * g.val = _; omega
  | ⟨2, _⟩ => show win0_4.index t 2 * 32 + 1 * p.val = p.val; rw [h]; show 0 * 32 + 1 * p.val = _; omega
  | ⟨3, _⟩ => show win0_4.index t 3 * 128 + 1 * l.val = l.val; rw [h]; show 0 * 128 + 1 * l.val = _; omega

theorem iblk5 (c : Dev nD) (t : Fin cfg0.N) (g : Fin 16) (l : Fin 128) :
    (iblk m c 5 t : Vec Ideal S1x16x128 .f32) (ix3 (0 : Fin 1) g l)
      = (m ((c : Thread nD τ).loc main_arg5) : Vec Ideal S32x16x128 .f32) (ix3 (rowOf t) g l) := by
  unfold iblk
  rw [View.read_apply]
  show V m c main_arg5 _ = _
  rw [V_main_arg5]
  refine congrArg (m ((c : Thread nD τ).loc main_arg5)) (funext fun a => Fin.ext ?_)
  have h := (on_row t).2.2.2.2.2.1
  match a with
  | ⟨0, _⟩ => show win0_5.index t 0 * 1 + 1 * 0 = t.val; rw [h]; show t.val * 1 + 1 * 0 = _; omega
  | ⟨1, _⟩ => show win0_5.index t 1 * 16 + 1 * g.val = g.val; rw [h]; show 0 * 16 + 1 * g.val = _; omega
  | ⟨2, _⟩ => show win0_5.index t 2 * 128 + 1 * l.val = l.val; rw [h]; show 0 * 128 + 1 * l.val = _; omega

theorem iblk6 (c : Dev nD) (t : Fin cfg0.N) (p : Fin 128) (l : Fin 128) :
    (iblk m c 6 t : Vec Ideal S1x128x128 .i32) (ix3 (0 : Fin 1) p l)
      = (m ((c : Thread nD τ).loc main_arg6) : Vec Ideal S32x128x128 .i32) (ix3 (rowOf t) p l) := by
  unfold iblk
  rw [View.read_apply]
  show V m c main_arg6 _ = _
  rw [V_main_arg6]
  refine congrArg (m ((c : Thread nD τ).loc main_arg6)) (funext fun a => Fin.ext ?_)
  have h := (on_row t).2.2.2.2.2.2.1
  match a with
  | ⟨0, _⟩ => show win0_6.index t 0 * 1 + 1 * 0 = t.val; rw [h]; show t.val * 1 + 1 * 0 = _; omega
  | ⟨1, _⟩ => show win0_6.index t 1 * 128 + 1 * p.val = p.val; rw [h]; show 0 * 128 + 1 * p.val = _; omega
  | ⟨2, _⟩ => show win0_6.index t 2 * 128 + 1 * l.val = l.val; rw [h]; show 0 * 128 + 1 * l.val = _; omega

theorem iblk7 (c : Dev nD) (t : Fin cfg0.N) (j : Fin 512) :
    (iblk m c 7 t : Vec Ideal S1x1x512 .fp8e4m3) (ix3 (0 : Fin 1) (0 : Fin 1) j)
      = (m ((c : Thread nD τ).loc main_arg7) : Vec Ideal S32x1x512 .fp8e4m3) (ix3 (rowOf t) (0 : Fin 1) j) := by
  unfold iblk
  rw [View.read_apply]
  show V m c main_arg7 _ = _
  rw [V_main_arg7]
  refine congrArg (m ((c : Thread nD τ).loc main_arg7)) (funext fun a => Fin.ext ?_)
  have h := (on_row t).2.2.2.2.2.2.2.1
  match a with
  | ⟨0, _⟩ => show win0_7.index t 0 * 1 + 1 * 0 = t.val; rw [h]; show t.val * 1 + 1 * 0 = _; omega
  | ⟨1, _⟩ => show win0_7.index t 1 * 1 + 1 * 0 = 0; rw [h]; show 0 * 1 + 1 * 0 = _; omega
  | ⟨2, _⟩ => show win0_7.index t 2 * 512 + 1 * j.val = j.val; rw [h]; show 0 * 512 + 1 * j.val = _; omega

theorem iblk8 (c : Dev nD) (t : Fin cfg0.N) (r : Fin 64) :
    (iblk m c 8 t : Vec Ideal S1x1x64 .bf16) (ix3 (0 : Fin 1) (0 : Fin 1) r)
      = (m ((c : Thread nD τ).loc main_arg8) : Vec Ideal S32x1x64 .bf16) (ix3 (rowOf t) (0 : Fin 1) r) := by
  unfold iblk
  rw [View.read_apply]
  show V m c main_arg8 _ = _
  rw [V_main_arg8]
  refine congrArg (m ((c : Thread nD τ).loc main_arg8)) (funext fun a => Fin.ext ?_)
  have h := (on_row t).2.2.2.2.2.2.2.2.1
  match a with
  | ⟨0, _⟩ => show win0_8.index t 0 * 1 + 1 * 0 = t.val; rw [h]; show t.val * 1 + 1 * 0 = _; omega
  | ⟨1, _⟩ => show win0_8.index t 1 * 1 + 1 * 0 = 0; rw [h]; show 0 * 1 + 1 * 0 = _; omega
  | ⟨2, _⟩ => show win0_8.index t 2 * 64 + 1 * r.val = r.val; rw [h]; show 0 * 64 + 1 * r.val = _; omega

/-- The kernel's result array. -/
def kernelArray (c : Dev nD) : Vec Ideal S32x32x512 .bf16 := fun y =>
  outcome (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (y 0) (y 1) (y 2)

/-- What the block's run at point `t` leaves is row `t` of that array. -/
theorem row_block (c : Dev nD) (t : Fin cfg0.N) (y : S1x32x512.Idx) :
    out0_A_9 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) scM0_0 (Memref.isWhole_whole _)
      (iblk m c 0 t) (iblk m c 1 t) (iblk m c 2 t) (iblk m c 3 t) (iblk m c 4 t) (iblk m c 5 t) (iblk m c 6 t) (iblk m c 7 t) (iblk m c 8 t) y
      = kernelArray m c (ix3 (rowOf t) (y 1) (y 2)) := by
  obtain ⟨u, q, j, rfl⟩ : ∃ (u : Fin 1) (q : Fin 32) (j : Fin 512), y = ix3 u q j := ⟨y 0, y 1, y 2, eq_ix3 y⟩
  refine (block_apply c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) scM0_0 (Memref.isWhole_whole _)
    (iblk m c 0 t) (iblk m c 1 t) (iblk m c 2 t) (iblk m c 3 t) (iblk m c 4 t) (iblk m c 5 t) (iblk m c 6 t) (iblk m c 7 t) (iblk m c 8 t) u q j).trans ?_
  show _ = outcome _ _ _ _ _ _ _ _ _ (rowOf t) q j
  unfold outcome
  refine result_congr (fun k => ?_) (iblk1 m c t q) (iblk2 m c t q) (iblk3 m c t) (iblk4 m c t) (iblk5 m c t) (iblk6 m c t) (iblk7 m c t) (iblk8 m c t) j
  exact (iblk0 m c t _ k).trans (by rw [coords_row])

/-- The window's blocks are whole: nothing is cut off. -/
theorem cut_whole (t : Fin cfg0.N) (X : Vec Ideal S1x32x512 .bf16) : (cfg0.win 9).cut (grid0.coords t) X = X := rfl

/-- What point `t` writes back is block `t` of that array. -/
theorem flushed_block (c : Dev nD) (t : Fin cfg0.N) :
    (dats m 0 c).flushed 9 t = ((cfg0.win 9).blk t).view.read (Elt Ideal) (kernelArray m c) := by
  rw [flushed9_A, cut_whole]
  refine funext fun (y : S1x32x512.Idx) => ?_
  rw [View.read_apply]
  have hy : ((cfg0.win 9).blk t).view.emb y = (ix3 (rowOf t) (y 1) (y 2) : S32x32x512.Idx) := by
    have h := (on_row t).2.2.2.2.2.2.2.2.2
    refine funext fun a => Fin.ext ?_
    match a with
    | ⟨0, _⟩ => show win0_9.index t 0 * 1 + 1 * (y 0).val = t.val; rw [h]; have := (y 0).isLt; show t.val * 1 + 1 * (y 0).val = _; have h0 : (y 0).val < 1 := this; omega
    | ⟨1, _⟩ => show win0_9.index t 1 * 32 + 1 * (y 1).val = (y 1).val; rw [h]; show 0 * 32 + 1 * (y 1).val = _; omega
    | ⟨2, _⟩ => show win0_9.index t 2 * 512 + 1 * (y 2).val = (y 2).val; rw [h]; show 0 * 512 + 1 * (y 2).val = _; omega
  rw [hy]
  exact row_block m c t y

/-- The blocks cover the array, so it is that array. -/
theorem kernel_array (c : Dev nD) : (dats m 0 c).arrAt 9 cfg0.N = kernelArray m c :=
  (dats m 0 c).arrAt_eq_of_cover 9 (kernelArray m c) (fun t _ => flushed_block m c t) fun i =>
    ⟨⟨(i 0).val, lt_of_lt_of_eq (i 0).isLt N_0.symm⟩, flush0_9 _, by
      show i ∈ ((View.whole main_v3).slice (win0_9.rect (⟨(i 0).val, lt_of_lt_of_eq (i 0).isLt N_0.symm⟩ : Fin grid0.N))).set
      rw [View.set_slice_whole, Rect.mem_set_unit]
      have h := (on_row ⟨(i 0).val, lt_of_lt_of_eq (i 0).isLt N_0.symm⟩).2.2.2.2.2.2.2.2.2
      intro a
      match a with
      | ⟨0, _⟩ => show win0_9.index _ 0 * 1 ≤ (i 0).val ∧ (i 0).val < win0_9.index _ 0 * 1 + 1; rw [h]; show (i 0).val * 1 ≤ _ ∧ _ < (i 0).val * 1 + 1; omega
      | ⟨1, _⟩ => show win0_9.index _ 1 * 32 ≤ (i 1).val ∧ (i 1).val < win0_9.index _ 1 * 32 + 32; rw [h]; have := (i 1).isLt; show 0 * 32 ≤ (i 1).val ∧ (i 1).val < 0 * 32 + 32; exact ⟨by omega, this⟩
      | ⟨2, _⟩ => show win0_9.index _ 2 * 512 ≤ (i 2).val ∧ (i 2).val < win0_9.index _ 2 * 512 + 512; rw [h]; have := (i 2).isLt; show 0 * 512 ≤ (i 2).val ∧ (i 2).val < 0 * 512 + 512; exact ⟨by omega, this⟩⟩

end Cert.Mla

end
-- ==== Proof.ReferenceCache.lean ====
/-
  What the reference lays out before it multiplies: the cached latents, the cached rope keys, the new token's latent and the
  two query arrays, each read at an index.
-/
module

public import proofs.«01_k».proof.Proof.Gen.ReferenceIdeal.Skeleton
public import proofs.«01_k».proof.Proof.Cache
public import Idealize.ShloMosaic.Lib.ValueLayout
public import Idealize.ShloMosaic.Lib.Pipeline.Value
public import Idealize.ShloMosaic.Lib.ValueIdx

@[expose] public section

noncomputable section

namespace Cert.Mla

open Idealize.ShloMosaic Idealize.ShloMosaic.ValueIdx
open Cert.ReferenceIdeal Cert.ReferenceIdeal.Gen
open scoped BigOperators

/-- The cached latents, in token order. -/
theorem ref_latent (w : Vec Ideal S32x16x32x128 .i32) (sc : Vec Ideal S32x16x128 .f32) (b : Fin 32) (t c : Fin 512) :
    Cert.ReferenceIdeal.Gen.k0_pay2 (F := Ideal) w sc (ix3 b t c)
      = latent (fun g p l => w (ix4 b g p l)) (fun g l => sc (ix3 b g l)) t c := by
  unfold Cert.ReferenceIdeal.Gen.k0_pay2
  refine (shapeCast_apply _ shapeCasts_S32x16x32x4x128_S32x512x512 (ix3 b t c)
    (ix5 b (⟨t.val / 32, by omega⟩ : Fin 16) (⟨t.val % 32, by omega⟩ : Fin 32) (⟨c.val / 128, by omega⟩ : Fin 4) (⟨c.val % 128, by omega⟩ : Fin 128)) ?_).trans ?_
  · rw [Shape.rowMajor_val_five, Shape.rowMajor_val_three]
    show (((b.val * 16 + t.val / 32) * 32 + t.val % 32) * 4 + c.val / 128) * 128 + c.val % 128 = (b.val * 512 + t.val) * 512 + c.val
    omega
  refine (congrArg₂ (· * ·) ?_ ?_).trans (latent_of (fun g p l => w (ix4 b g p l)) (fun g l => sc (ix3 b g l)) t c
    (⟨t.val / 32, by omega⟩ : Fin 16) (⟨(c.val / 128 * 32 + t.val % 32) / 4, by omega⟩ : Fin 32) (⟨c.val % 128, by omega⟩ : Fin 128)
    (⟨c.val / 128 * 32 + t.val % 32, by omega⟩ : Fin 128) ((c.val / 128 * 32 + t.val % 32) % 4)
    rfl (by show _ / 4 = _; omega) rfl (by show _ + _ = _; omega) (by omega))
  · refine (transpose_apply _ _ transposes_S32x16x4x32x128_p0_1_3_2_4_S32x16x32x4x128 _
      (ix5 b (⟨t.val / 32, by omega⟩ : Fin 16) (⟨c.val / 128, by omega⟩ : Fin 4) (⟨t.val % 32, by omega⟩ : Fin 32) (⟨c.val % 128, by omega⟩ : Fin 128)) ?_).trans ?_
    · intro a
      match a with
      | ⟨0, _⟩ => rfl
      | ⟨1, _⟩ => rfl
      | ⟨2, _⟩ => rfl
      | ⟨3, _⟩ => rfl
      | ⟨4, _⟩ => rfl
    refine (shapeCast_apply _ shapeCasts_S32x16x128x128_S32x16x4x32x128 _
      (ix4 b (⟨t.val / 32, by omega⟩ : Fin 16) (⟨c.val / 128 * 32 + t.val % 32, by omega⟩ : Fin 128) (⟨c.val % 128, by omega⟩ : Fin 128)) ?_).trans ?_
    · rw [Shape.rowMajor_val_five, Shape.rowMajor_val_four]
      show ((b.val * 16 + t.val / 32) * 128 + (c.val / 128 * 32 + t.val % 32)) * 128 + c.val % 128
        = (((b.val * 16 + t.val / 32) * 4 + c.val / 128) * 32 + t.val % 32) * 128 + c.val % 128
      omega
    exact code_ix4 w bitcasts_S32x16x32x128_w32_S32x16x128x128_w8 b _ _ _ _ rfl
  · refine (broadcastTo_apply _ broadcasts_S32x16x32x4x1_S32x16x32x4x128 _
      (ix5 b (⟨t.val / 32, by omega⟩ : Fin 16) (⟨t.val % 32, by omega⟩ : Fin 32) (⟨c.val / 128, by omega⟩ : Fin 4) (0 : Fin 1)) ?_).trans ?_
    · intro a
      match a with
      | ⟨0, _⟩ => rfl
      | ⟨1, _⟩ => rfl
      | ⟨2, _⟩ => rfl
      | ⟨3, _⟩ => rfl
      | ⟨4, _⟩ => rfl
    refine (shapeCast_apply _ shapeCasts_S32x16x32x4_S32x16x32x4x1 _
      (ix4 b (⟨t.val / 32, by omega⟩ : Fin 16) (⟨t.val % 32, by omega⟩ : Fin 32) (⟨c.val / 128, by omega⟩ : Fin 4)) ?_).trans ?_
    · rw [Shape.rowMajor_val_five, Shape.rowMajor_val_four]
      show ((b.val * 16 + t.val / 32) * 32 + t.val % 32) * 4 + c.val / 128
        = (((b.val * 16 + t.val / 32) * 32 + t.val % 32) * 4 + c.val / 128) * 1 + 0
      omega
    rw [truncf_apply]
    refine (transpose_apply _ _ transposes_S32x16x4x32_p0_1_3_2_S32x16x32x4 _
      (ix4 b (⟨t.val / 32, by omega⟩ : Fin 16) (⟨c.val / 128, by omega⟩ : Fin 4) (⟨t.val % 32, by omega⟩ : Fin 32)) ?_).trans ?_
    · intro a
      match a with
      | ⟨0, _⟩ => rfl
      | ⟨1, _⟩ => rfl
      | ⟨2, _⟩ => rfl
      | ⟨3, _⟩ => rfl
    refine shapeCast_apply _ shapeCasts_S32x16x128_S32x16x4x32 _
      (ix3 b (⟨t.val / 32, by omega⟩ : Fin 16) (⟨c.val / 128 * 32 + t.val % 32, by omega⟩ : Fin 128)) ?_
    rw [Shape.rowMajor_val_three, Shape.rowMajor_val_four]
    show (b.val * 16 + t.val / 32) * 128 + (c.val / 128 * 32 + t.val % 32)
      = ((b.val * 16 + t.val / 32) * 4 + c.val / 128) * 32 + t.val % 32
    omega

/-- The cached rope keys, in token order. -/
theorem ref_rope (w : Vec Ideal S32x128x128 .i32) (b : Fin 32) (t : Fin 512) (r : Fin 64) :
    shapeCast S32x512x64 (transpose S32x4x128x64 [0, 1, 3, 2] (shapeCast S32x4x64x128
        (bitcastToFloat (F := Ideal) .bf16 (bitcast S32x256x128 16 w bitcasts_S32x128x128_w32_S32x256x128_w16))
        shapeCasts_S32x256x128_S32x4x64x128) transposes_S32x4x64x128_p0_1_3_2_S32x4x128x64) shapeCasts_S32x4x128x64_S32x512x64 (ix3 b t r)
      = ropeKey (fun p l => w (ix3 b p l)) t r := by
  refine (shapeCast_apply _ _ _ (ix4 b (⟨t.val / 128, by omega⟩ : Fin 4) (⟨t.val % 128, by omega⟩ : Fin 128) r) ?_).trans ?_
  · rw [Shape.rowMajor_val_three, Shape.rowMajor_val_four]
    show ((b.val * 4 + t.val / 128) * 128 + t.val % 128) * 64 + r.val = (b.val * 512 + t.val) * 64 + r.val
    omega
  refine (transpose_apply _ _ _ _ (ix4 b (⟨t.val / 128, by omega⟩ : Fin 4) r (⟨t.val % 128, by omega⟩ : Fin 128)) ?_).trans ?_
  · intro a
    match a with
    | ⟨0, _⟩ => rfl
    | ⟨1, _⟩ => rfl
    | ⟨2, _⟩ => rfl
    | ⟨3, _⟩ => rfl
  refine (shapeCast_apply _ _ _ (ix3 b (⟨t.val / 128 * 64 + r.val, by omega⟩ : Fin 256) (⟨t.val % 128, by omega⟩ : Fin 128)) ?_).trans ?_
  · rw [Shape.rowMajor_val_three, Shape.rowMajor_val_four]
    show (b.val * 256 + (t.val / 128 * 64 + r.val)) * 128 + t.val % 128 = ((b.val * 4 + t.val / 128) * 64 + r.val) * 128 + t.val % 128
    omega
  refine (half_ix3 w bitcasts_S32x128x128_w32_S32x256x128_w16 b _ _ (⟨(t.val / 128 * 64 + r.val) / 2, by omega⟩ : Fin 128) rfl).trans ?_
  exact ropeKey_of (fun p l => w (ix3 b p l)) t r _ _ _ (by show _ / 2 = _; omega) rfl (by show (t.val / 128 * 64 + r.val) % 2 = _; omega)

/-- The new token's latent. -/
theorem ref_new (x : Vec Ideal S32x1x512 .fp8e4m3) (s : Vec Ideal S32x1x4 .f32) (b : Fin 32) (u : Fin 1) (c : Fin 512) :
    Cert.ReferenceIdeal.Gen.k0_pay3 (F := Ideal) x s (ix3 b u c)
      = newLatent (fun j => x (ix3 b (0 : Fin 1) j)) (fun k => s (ix3 b (0 : Fin 1) k)) c := by
  obtain rfl : u = 0 := Subsingleton.elim _ _
  unfold Cert.ReferenceIdeal.Gen.k0_pay3
  refine (shapeCast_apply _ shapeCasts_S32x1x4x128_S32x1x512 _
    (ix4 b (0 : Fin 1) (⟨c.val / 128, by omega⟩ : Fin 4) (⟨c.val % 128, by omega⟩ : Fin 128)) ?_).trans ?_
  · rw [Shape.rowMajor_val_three, Shape.rowMajor_val_four]
    show ((b.val * 1 + 0) * 4 + c.val / 128) * 128 + c.val % 128 = (b.val * 1 + 0) * 512 + c.val
    omega
  refine congrArg₂ (· * ·) ?_ ?_
  · refine shapeCast_apply _ shapeCasts_S32x1x512_S32x1x4x128 _ (ix3 b (0 : Fin 1) c) ?_
    rw [Shape.rowMajor_val_three, Shape.rowMajor_val_four]
    show (b.val * 1 + 0) * 512 + c.val = ((b.val * 1 + 0) * 4 + c.val / 128) * 128 + c.val % 128
    omega
  · refine (broadcastTo_apply _ broadcasts_S32x1x4x1_S32x1x4x128 _ (ix4 b (0 : Fin 1) (⟨c.val / 128, by omega⟩ : Fin 4) (0 : Fin 1)) ?_).trans ?_
    · intro a
      match a with
      | ⟨0, _⟩ => rfl
      | ⟨1, _⟩ => rfl
      | ⟨2, _⟩ => rfl
      | ⟨3, _⟩ => rfl
    refine shapeCast_apply _ shapeCasts_S32x1x4_S32x1x4x1 _ (ix3 b (0 : Fin 1) (⟨c.val / 128, by omega⟩ : Fin 4)) ?_
    rw [Shape.rowMajor_val_three, Shape.rowMajor_val_four]
    show (b.val * 1 + 0) * 4 + c.val / 128 = ((b.val * 1 + 0) * 4 + c.val / 128) * 1 + 0
    omega

/-- The latent queries, a head's 512 channels apart. -/
theorem ref_query (x : Vec Ideal S32x1x16384 .bf16) (b h : Fin 32) (c : Fin 512) :
    Cert.ReferenceIdeal.Gen.k0_pay4 (F := Ideal) x (ix3 b h c) = x (ix3 b (0 : Fin 1) (⟨512 * h.val + c.val, by omega⟩ : Fin 16384)) := by
  unfold Cert.ReferenceIdeal.Gen.k0_pay4
  refine shapeCast_apply _ shapeCasts_S32x1x16384_S32x32x512 _ _ ?_
  rw [Shape.rowMajor_val_three, Shape.rowMajor_val_three]
  show (b.val * 1 + 0) * 16384 + (512 * h.val + c.val) = (b.val * 32 + h.val) * 512 + c.val
  omega

/-- The rope queries. -/
theorem ref_rope_query (x : Vec Ideal S32x1x32x64 .bf16) (b h : Fin 32) (r : Fin 64) :
    Cert.ReferenceIdeal.Gen.k0_pay5 (F := Ideal) x (ix3 b h r) = x (ix4 b (0 : Fin 1) h r) := by
  unfold Cert.ReferenceIdeal.Gen.k0_pay5
  refine shapeCast_apply _ shapeCasts_S32x1x32x64_S32x32x64 _ _ ?_
  rw [Shape.rowMajor_val_three, Shape.rowMajor_val_four]
  show ((b.val * 1 + 0) * 32 + h.val) * 64 + r.val = (b.val * 32 + h.val) * 64 + r.val
  omega

end Cert.Mla

end
-- ==== Proof.Products.lean ====
/-
  Products under one batch axis read at an index: rows against rows, and rows against columns.
-/
module

public import Idealize.ShloMosaic.Lib.MatmulPlain

@[expose] public section

noncomputable section

namespace Cert.Mla

open Idealize.ShloMosaic Idealize.ShloMosaic.ValueIdx
open scoped BigOperators

/-- `[b, m, k] · [b, n, k] → [b, m, n]`: every row of the left operand against every row of the right one. -/
def rowsByRows (b m n k : ℕ) (hb : 0 < b) : DotDims ⟨3, ![b, m, k]⟩ ⟨3, ![b, n, k]⟩ ⟨3, ![b, m, n]⟩ where
  lhsContracting := [2]
  rhsContracting := [2]
  lhsNonContracting := [1]
  rhsNonContracting := [1]
  lhsBatch := [0]
  rhsBatch := [0]
  wf := ⟨rfl, by simp, rfl, by simpa using hb, by simp, by simp,
    (by decide : (([0] ++ [1] ++ [2] : List (Fin 3))).Perm (List.finRange 3)),
    (by decide : (([0] ++ [1] ++ [2] : List (Fin 3))).Perm (List.finRange 3)),
    rfl, by show 0 < 3; decide, fun a => by fin_cases a <;> rfl⟩

/-- `[b, m, k] · [b, k, n] → [b, m, n]`: every row of the left operand against every column of the right one. -/
def rowsByColumns (b m n k : ℕ) (hb : 0 < b) : DotDims ⟨3, ![b, m, k]⟩ ⟨3, ![b, k, n]⟩ ⟨3, ![b, m, n]⟩ where
  lhsContracting := [2]
  rhsContracting := [1]
  lhsNonContracting := [1]
  rhsNonContracting := [2]
  lhsBatch := [0]
  rhsBatch := [0]
  wf := ⟨rfl, by simp, rfl, by simpa using hb, by simp, by simp,
    (by decide : (([0] ++ [1] ++ [2] : List (Fin 3))).Perm (List.finRange 3)),
    (by decide : (([0] ++ [2] ++ [1] : List (Fin 3))).Perm (List.finRange 3)),
    rfl, by show 0 < 3; decide, fun a => by fin_cases a <;> rfl⟩

/-- Rows against rows at `(i, r, c)`: Σ_j lhs[i, r, j] · rhs[i, c, j]. -/
theorem rowsByRows_apply {b m n k : ℕ} (hb : 0 < b) {φ₁ φ₂ : FTy} (lhs : FVec Ideal ⟨3, ![b, m, k]⟩ φ₁)
    (rhs : FVec Ideal ⟨3, ![b, n, k]⟩ φ₂) (i : Fin b) (r : Fin m) (c : Fin n) :
    FloatOps.matmul (rowsByRows b m n k hb) none lhs rhs (constant ⟨3, ![b, m, n]⟩ .f32 0x00000000#32) (ix3 i r c)
      = ∑ j : Fin k, lhs (ix3 i r j) * rhs (ix3 i c j) := by
  have hr : (rowsByRows b m n k hb).contr.rank = 1 := rfl
  have hs : (rowsByRows b m n k hb).contr.size ⟨0, by rw [hr]; exact Nat.one_pos⟩ = k := rfl
  rw [Ideal.matmul_constant_zero_apply, ← Equiv.sum_comp (contrEquiv1 _ k hr hs).symm]
  refine Finset.sum_congr rfl fun j _ => ?_
  have hj := contrEquiv1_symm_val _ k hr hs j
  have el : (rowsByRows b m n k hb).lhsIdx (ix3 i r c) ((contrEquiv1 _ k hr hs).symm j) = ix3 i r j := by
    funext a; apply Fin.ext
    match a with
    | ⟨0, _⟩ => rfl
    | ⟨1, _⟩ => rfl
    | ⟨2, _⟩ => exact hj
  have er : (rowsByRows b m n k hb).rhsIdx (ix3 i r c) ((contrEquiv1 _ k hr hs).symm j) = ix3 i c j := by
    funext a; apply Fin.ext
    match a with
    | ⟨0, _⟩ => rfl
    | ⟨1, _⟩ => rfl
    | ⟨2, _⟩ => exact hj
  rw [el, er]

/-- Rows against columns at `(i, r, c)`: Σ_j lhs[i, r, j] · rhs[i, j, c]. -/
theorem rowsByColumns_apply {b m n k : ℕ} (hb : 0 < b) {φ₁ φ₂ : FTy} (lhs : FVec Ideal ⟨3, ![b, m, k]⟩ φ₁)
    (rhs : FVec Ideal ⟨3, ![b, k, n]⟩ φ₂) (i : Fin b) (r : Fin m) (c : Fin n) :
    FloatOps.matmul (rowsByColumns b m n k hb) none lhs rhs (constant ⟨3, ![b, m, n]⟩ .f32 0x00000000#32) (ix3 i r c)
      = ∑ j : Fin k, lhs (ix3 i r j) * rhs (ix3 i j c) := by
  have hr : (rowsByColumns b m n k hb).contr.rank = 1 := rfl
  have hs : (rowsByColumns b m n k hb).contr.size ⟨0, by rw [hr]; exact Nat.one_pos⟩ = k := rfl
  rw [Ideal.matmul_constant_zero_apply, ← Equiv.sum_comp (contrEquiv1 _ k hr hs).symm]
  refine Finset.sum_congr rfl fun j _ => ?_
  have hj := contrEquiv1_symm_val _ k hr hs j
  have el : (rowsByColumns b m n k hb).lhsIdx (ix3 i r c) ((contrEquiv1 _ k hr hs).symm j) = ix3 i r j := by
    funext a; apply Fin.ext
    match a with
    | ⟨0, _⟩ => rfl
    | ⟨1, _⟩ => rfl
    | ⟨2, _⟩ => exact hj
  have er : (rowsByColumns b m n k hb).rhsIdx (ix3 i r c) ((contrEquiv1 _ k hr hs).symm j) = ix3 i j c := by
    funext a; apply Fin.ext
    match a with
    | ⟨0, _⟩ => rfl
    | ⟨1, _⟩ => exact hj
    | ⟨2, _⟩ => rfl
  rw [el, er]

end Cert.Mla

end
-- ==== Proof.ReferenceValue.lean ====
/-
  What the reference computes: the 513 joined scores of a head, their softmax, and the stored result, read at an index and
  brought to `outcome`.
-/
module

public import proofs.«01_k».proof.Proof.Gen.ReferenceIdeal.Value
public import proofs.«01_k».proof.Proof.ReferenceCache
public import proofs.«01_k».proof.Proof.Products
public import proofs.«01_k».proof.Proof.Outcome

@[expose] public section

noncomputable section

namespace Cert.Mla

open Idealize.ShloMosaic Idealize.ShloMosaic.ValueIdx
open Cert.ReferenceIdeal Cert.ReferenceIdeal.Gen
open scoped BigOperators

/-- The products of the cached tokens, before the scale. -/
theorem ref_products (a1 : Vec Ideal S32x1x16384 .bf16) (a2 : Vec Ideal S32x1x32x64 .bf16) (a4 : Vec Ideal S32x16x32x128 .i32)
    (a5 : Vec Ideal S32x16x128 .f32) (a6 : Vec Ideal S32x128x128 .i32) (b h : Fin 32) (t : Fin 512) :
    Cert.ReferenceIdeal.Gen.k0_pay6 (F := Ideal) a4 a5 a6 a1 a2 (ix3 b h t)
      = (∑ c : Fin 512, a1 (ix3 b (0 : Fin 1) (⟨512 * h.val + c.val, by omega⟩ : Fin 16384))
          * latent (fun g p l => a4 (ix4 b g p l)) (fun g l => a5 (ix3 b g l)) t c)
        + ∑ r : Fin 64, a2 (ix4 b (0 : Fin 1) h r) * ropeKey (fun p l => a6 (ix3 b p l)) t r := by
  unfold Cert.ReferenceIdeal.Gen.k0_pay6
  refine congrArg₂ (· + ·)
    ((rowsByRows_apply (b := 32) (m := 32) (n := 512) (k := 512) (by decide) _ _ b h t).trans ?_)
    ((rowsByRows_apply (b := 32) (m := 32) (n := 512) (k := 64) (by decide) _ _ b h t).trans ?_)
  · exact Finset.sum_congr rfl fun c _ => congrArg₂ (· * ·) (ref_query a1 b h c) (ref_latent a4 a5 b t c)
  · exact Finset.sum_congr rfl fun r _ => congrArg₂ (· * ·) (ref_rope_query a2 b h r) (ref_rope a6 b t r)

section Softmax
variable (v12 : FVec Ideal S32x512x512 .bf16) (v26 : FVec Ideal S32x1x512 .bf16) (v28 : FVec Ideal S32x32x512 .bf16)
  (v30 : FVec Ideal S32x32x64 .bf16) (v33 : FVec Ideal S32x32x512 .f32) (v36 : Vec Ideal S32x1x512 .i32) (v44 : FVec Ideal S32x1x64 .bf16)

/-- The masked scores of the cached tokens. -/
def cachedScores : FVec Ideal S32x32x512 .f32 :=
  select (broadcastTo S32x32x512 (shapeCast S32x1x512 (cmpi .sge v36 (broadcast S32x1x512 0#32)) shapeCasts_S32x1x512_S32x1x512)
      broadcasts_S32x1x512_S32x32x512)
    (mulf v33 (broadcast S32x32x512 (Scalar.ofBits (F := Ideal) .f32 0x3D93CD3A#32)))
    (broadcast S32x32x512 (Scalar.ofBits (F := Ideal) .f32 0xFF800000#32))

/-- The new token's scores. -/
def newScores : FVec Ideal S32x32x1 .f32 :=
  mulf (addf (matmul dot_S32x32x512_S32x1x512_S32x32x1_2_2_1_1_0_0 none v28 v26 (constant S32x32x1 .f32 0x00000000#32))
      (matmul dot_S32x32x64_S32x1x64_S32x32x1_2_2_1_1_0_0 none v30 v44 (constant S32x32x1 .f32 0x00000000#32)))
    (broadcast S32x32x1 (Scalar.ofBits (F := Ideal) .f32 0x3D93CD3A#32))

/-- The 513 scores of every head, the new token's last. -/
def joined (s : FVec Ideal S32x32x512 .f32) (sn : FVec Ideal S32x32x1 .f32) : FVec Ideal S32x32x513 .f32 :=
  concatenate S32x32x513 2 [⟨S32x32x512, s⟩, ⟨S32x32x1, sn⟩] concatenates_S32x32x512_S32x32x1_S32x32x513_d2

/-- A head's largest score. -/
def largest (z : FVec Ideal S32x32x513 .f32) : FVec Ideal S32x32 .f32 :=
  maximumf (broadcast S32x32 (Scalar.ofBits (F := Ideal) .f32 0xFF800000#32))
    (multiReduction .maximumf [2] S32x32 z 0xFF800000#32 reduces_S32x32x513_S32x32 (.inl rfl) rfl)

/-- A number a head spread over the head's 513 scores. -/
def spread (x : FVec Ideal S32x32 .f32) : FVec Ideal S32x32x513 .f32 :=
  broadcastTo S32x32x513 (shapeCast S32x32x1 x shapeCasts_S32x32_S32x32x1) broadcasts_S32x32x1_S32x32x513

/-- The exponentials of the scores, the largest score taken off. -/
def exps (z : FVec Ideal S32x32x513 .f32) : FVec Ideal S32x32x513 .f32 := exp (subf z (spread (largest z)))

/-- The softmax weights. -/
def weights (z : FVec Ideal S32x32x513 .f32) : FVec Ideal S32x32x513 .bf16 :=
  truncf .bf16 (divf (exps z) (spread
    (multiReduction .add [2] S32x32 (exps z) 0x00000000#32 reduces_S32x32x513_S32x32 (.inl rfl) rfl))) bitsLt_bf16_f32

/-- The stored result in these names. -/
theorem stored_eq : Cert.ReferenceIdeal.Gen.k0_pay1 (F := Ideal) v12 v26 v28 v30 v33 (Scalar.ofBits .f32 0x3D93CD3A#32) v36 v44
    = truncf .bf16 (addf
        (matmul dot_S32x32x512_S32x512x512_S32x32x512_2_1_1_2_0_0 none
          (extractStridedSlice S32x32x512 ![0, 0, 0] (weights (joined (cachedScores v33 v36) (newScores v26 v28 v30 v44))) slices_S32x32x513_o0_0_0_S32x32x512)
          v12 (constant S32x32x512 .f32 0x00000000#32))
        (matmul dot_S32x32x1_S32x1x512_S32x32x512_2_1_1_2_0_0 none
          (extractStridedSlice S32x32x1 ![0, 0, 512] (weights (joined (cachedScores v33 v36) (newScores v26 v28 v30 v44))) slices_S32x32x513_o0_0_512_S32x32x1)
          v26 (constant S32x32x512 .f32 0x00000000#32))) bitsLt_bf16_f32 := rfl

/-- A cached token's score: masked where its index is negative. -/
theorem cachedScores_apply (b h : Fin 32) (t : Fin 512) :
    cachedScores v33 v36 (ix3 b h t) = scoreAt (v36 (ix3 b (0 : Fin 1) t)) (v33 (ix3 b h t) * smScale) := by
  unfold cachedScores
  rw [select_apply, shapeCast_self]
  have e : broadcastTo S32x32x512 (cmpi .sge v36 (broadcast S32x1x512 0#32)) broadcasts_S32x1x512_S32x32x512 (ix3 b h t)
      = cmpi .sge v36 (broadcast S32x1x512 0#32) (ix3 b (0 : Fin 1) t) := by
    refine broadcastTo_apply _ _ _ _ fun a => ?_
    match a with
    | ⟨0, _⟩ => rfl
    | ⟨1, _⟩ => rfl
    | ⟨2, _⟩ => rfl
  rw [e]
  rfl

/-- The new token's score. -/
theorem newScores_apply (b h : Fin 32) (u : Fin 1) :
    newScores v26 v28 v30 v44 (ix3 b h u)
      = score (fun c => v28 (ix3 b h c)) (fun r => v30 (ix3 b h r)) (fun c => v26 (ix3 b u c)) (fun r => v44 (ix3 b u r)) := by
  unfold newScores
  exact congrArg (· * smScale) (congrArg₂ (· + ·)
    (rowsByRows_apply (b := 32) (m := 32) (n := 1) (k := 512) (by decide) v28 v26 b h u)
    (rowsByRows_apply (b := 32) (m := 32) (n := 1) (k := 64) (by decide) v30 v44 b h u))

/-- The joined scores at a cached token. -/
theorem joined_cached (s : FVec Ideal S32x32x512 .f32) (sn : FVec Ideal S32x32x1 .f32) (b h : Fin 32) (t : Fin 512) :
    joined s sn (ix3 b h t.castSucc) = s (ix3 b h t) := by
  refine concatenate_pair_apply_left (t := S32x32x513) 2 s sn _ _ rfl (ix3 b h t) fun a => ?_
  match a with
  | ⟨0, _⟩ => rfl
  | ⟨1, _⟩ => rfl
  | ⟨2, _⟩ => rfl

/-- The joined scores at the new token. -/
theorem joined_new (s : FVec Ideal S32x32x512 .f32) (sn : FVec Ideal S32x32x1 .f32) (b h : Fin 32) :
    joined s sn (ix3 b h (Fin.last 512)) = sn (ix3 b h (0 : Fin 1)) := by
  refine concatenate_pair_apply_right (t := S32x32x513) 2 s sn _ _ rfl rfl (ix3 b h (0 : Fin 1)) (fun a ha => ?_) rfl
  match a with
  | ⟨0, _⟩ => rfl
  | ⟨1, _⟩ => rfl
  | ⟨2, _⟩ => exact absurd rfl ha

/-- The spread number is the head's. -/
theorem spread_apply (x : FVec Ideal S32x32 .f32) (b h : Fin 32) (t : Fin 513) : spread x (ix3 b h t) = x (ix2 b h) := by
  unfold spread
  refine (broadcastTo_apply _ broadcasts_S32x32x1_S32x32x513 _ (ix3 b h (0 : Fin 1)) fun a => ?_).trans ?_
  · match a with
    | ⟨0, _⟩ => rfl
    | ⟨1, _⟩ => rfl
    | ⟨2, _⟩ => rfl
  refine shapeCast_apply _ shapeCasts_S32x32_S32x32x1 _ _ ?_
  rw [Shape.rowMajor_val_three, Shape.rowMajor_val_two]
  show b.val * 32 + h.val = (b.val * 32 + h.val) * 1 + 0
  omega

/-- The largest of a head's scores. -/
theorem largest_apply (z : FVec Ideal S32x32x513 .f32) (b h : Fin 32) :
    largest z (ix2 b h) = top (fun t => z (ix3 b h t.castSucc)) (z (ix3 b h (Fin.last 512))) := by
  refine Eq.trans ?_ (top_joined fun t => z (ix3 b h t))
  unfold largest
  refine congrArg (fun x : EReal => max masked x) ?_
  refine (Ideal.multiReduction_maximumf_single z _ reduces_S32x32x513_S32x32 _ _ (ix2 b h)).trans ?_
  refine congrArg (fun f : Fin 513 → EReal => (Finset.univ : Finset (Fin 513)).fold max masked f) (funext fun k => congrArg z ?_)
  funext a
  match a with
  | ⟨0, _⟩ => rfl
  | ⟨1, _⟩ => rfl
  | ⟨2, _⟩ => rfl

/-- The exponential of one score. -/
theorem exps_apply (z : FVec Ideal S32x32x513 .f32) (b h : Fin 32) (t : Fin 513) :
    exps z (ix3 b h t) = Ideal.exp (z (ix3 b h t) - top (fun t => z (ix3 b h t.castSucc)) (z (ix3 b h (Fin.last 512)))) := by
  rw [← largest_apply, ← spread_apply (largest z) b h t]
  rfl

/-- One softmax weight. -/
theorem weights_apply (z : FVec Ideal S32x32x513 .f32) (b h : Fin 32) (t : Fin 513) :
    weights z (ix3 b h t) = weight (fun t => z (ix3 b h t.castSucc)) (z (ix3 b h (Fin.last 512))) (z (ix3 b h t)) := by
  unfold weights weight
  rw [truncf_apply]
  refine congrArg₂ Ideal.div (exps_apply z b h t) ((spread_apply _ b h t).trans ?_)
  refine (Ideal.multiReduction_add_single (exps z) _ reduces_S32x32x513_S32x32 _ _ (ix2 b h)).trans ?_
  refine Eq.trans ?_ (total_joined fun t => z (ix3 b h t))
  refine Finset.sum_congr rfl fun k _ => Eq.trans (congrArg (exps z) ?_) (exps_apply z b h k)
  funext a
  match a with
  | ⟨0, _⟩ => rfl
  | ⟨1, _⟩ => rfl
  | ⟨2, _⟩ => rfl

/-- One channel of one head of the stored result. -/
theorem ref_attend (b h : Fin 32) (c : Fin 512) :
    Cert.ReferenceIdeal.Gen.k0_pay1 (F := Ideal) v12 v26 v28 v30 v33 (Scalar.ofBits .f32 0x3D93CD3A#32) v36 v44 (ix3 b h c)
      = attend (fun t => cachedScores v33 v36 (ix3 b h t)) (newScores v26 v28 v30 v44 (ix3 b h (0 : Fin 1)))
          (fun t => v12 (ix3 b t c)) (v26 (ix3 b (0 : Fin 1) c)) := by
  rw [stored_eq, truncf_apply]
  generalize hs : cachedScores v33 v36 = s
  generalize hn : newScores v26 v28 v30 v44 = sn
  have hw : ∀ t : Fin 513, weights (joined s sn) (ix3 b h t)
      = weight (fun t => s (ix3 b h t)) (sn (ix3 b h (0 : Fin 1))) (joined s sn (ix3 b h t)) := fun t => by
    rw [weights_apply, joined_new]
    simp only [joined_cached]
  refine congrArg₂ (· + ·)
    ((rowsByColumns_apply (b := 32) (m := 32) (n := 512) (k := 512) (by decide) _ v12 b h c).trans ?_)
    ((rowsByColumns_apply (b := 32) (m := 32) (n := 512) (k := 1) (by decide) _ v26 b h c).trans ?_)
  · refine Finset.sum_congr rfl fun t _ => congrArg (· * v12 (ix3 b t c)) ?_
    refine (extractStridedSlice_apply _ _ slices_S32x32x513_o0_0_0_S32x32x512 _ (ix3 b h t.castSucc) fun a => ?_).trans ?_
    · match a with
      | ⟨0, _⟩ => exact (Nat.zero_add _).symm
      | ⟨1, _⟩ => exact (Nat.zero_add _).symm
      | ⟨2, _⟩ => exact (Nat.zero_add _).symm
    rw [hw, joined_cached]
  · rw [Fin.sum_univ_one]
    refine congrArg (· * v26 (ix3 b (0 : Fin 1) c)) ?_
    refine (extractStridedSlice_apply _ _ slices_S32x32x513_o0_0_512_S32x32x1 _ (ix3 b h (Fin.last 512)) fun a => ?_).trans ?_
    · match a with
      | ⟨0, _⟩ => exact (Nat.zero_add _).symm
      | ⟨1, _⟩ => exact (Nat.zero_add _).symm
      | ⟨2, _⟩ => rfl
    rw [hw, joined_new]

end Softmax

/-- The reference's array is the outcome. -/
theorem reference_apply (a0 : Vec Ideal S32x1x4 .f32) (a1 : Vec Ideal S32x1x16384 .bf16) (a2 : Vec Ideal S32x1x32x64 .bf16)
    (a3 : Vec Ideal S32x1x512 .i32) (a4 : Vec Ideal S32x16x32x128 .i32) (a5 : Vec Ideal S32x16x128 .f32)
    (a6 : Vec Ideal S32x128x128 .i32) (a7 : Vec Ideal S32x1x512 .fp8e4m3) (a8 : Vec Ideal S32x1x64 .bf16) (b h : Fin 32) (c : Fin 512) :
    Cert.ReferenceIdeal.Value.G9 (F := Ideal) a0 a1 a2 a3 a4 a5 a6 a7 a8 (ix3 b h c) = outcome a0 a1 a2 a3 a4 a5 a6 a7 a8 b h c := by
  refine (ref_attend _ _ _ _ _ _ _ b h c).trans ?_
  unfold outcome result
  refine attend_congr (fun t => ?_) ?_ (fun t => ref_latent a4 a5 b t c) (ref_new a7 a0 b 0 c)
  · rw [cachedScores_apply, ref_products]
    rfl
  · rw [newScores_apply]
    exact score_congr (fun c => ref_query a1 b h c) (fun r => ref_rope_query a2 b h r) (fun c => ref_new a7 a0 b 0 c) (fun _ => rfl)

end Cert.Mla

end
-- ==== Proof.Equation.lean ====
/-
  The equation: from operands that agree, the kernel's run and the reference's run end with the same array, `kernelArray`.
-/
module

public import proofs.«01_k».proof.Defs
public import proofs.«01_k».proof.Proof.KernelValue
public import proofs.«01_k».proof.Proof.ReferenceValue

@[expose] public section

noncomputable section

namespace Cert.Mla

open Idealize.ShloMosaic Idealize.ShloMosaic.ValueIdx Idealize.SL.Sem

/-- The reference's array of some operands is the array of their outcomes. -/
theorem reference_array (a0 : Vec Ideal Cert.ReferenceIdeal.S32x1x4 .f32) (a1 : Vec Ideal Cert.ReferenceIdeal.S32x1x16384 .bf16)
    (a2 : Vec Ideal Cert.ReferenceIdeal.S32x1x32x64 .bf16) (a3 : Vec Ideal Cert.ReferenceIdeal.S32x1x512 .i32)
    (a4 : Vec Ideal Cert.ReferenceIdeal.S32x16x32x128 .i32) (a5 : Vec Ideal Cert.ReferenceIdeal.S32x16x128 .f32)
    (a6 : Vec Ideal Cert.ReferenceIdeal.S32x128x128 .i32) (a7 : Vec Ideal Cert.ReferenceIdeal.S32x1x512 .fp8e4m3)
    (a8 : Vec Ideal Cert.ReferenceIdeal.S32x1x64 .bf16) :
    Cert.ReferenceIdeal.Value.G9 (F := Ideal) a0 a1 a2 a3 a4 a5 a6 a7 a8
      = fun y => outcome a0 a1 a2 a3 a4 a5 a6 a7 a8 (y 0) (y 1) (y 2) := by
  funext y
  obtain ⟨b, h, c, rfl⟩ : ∃ (b h : Fin 32) (c : Fin 512), y = ix3 b h c := ⟨y 0, y 1, y 2, eq_ix3 y⟩
  exact reference_apply a0 a1 a2 a3 a4 a5 a6 a7 a8 b h c

/-- Both programs run and end with the same array. -/
theorem same_array : Cert.algebraic_KernelIdeal_ReferenceIdeal (hKernelIdeal := Cert.KernelIdeal.Gen.facts)
    (hReferenceIdeal := Cert.ReferenceIdeal.Gen.facts) := by
  intro m g m' g' _ agree
  refine ⟨fun c => kernelArray m c, ?_, ?_⟩
  · refine (θ_run _ _ _).mono (fun r h c => ?_) (Cert.KernelIdeal.Value.run_blocks m g)
    exact ⟨(h c).1.trans (kernel_array m c), (h c).2⟩
  · refine (θ_run _ _ _).mono (fun r h c => ?_) (Cert.ReferenceIdeal.Value.run m' g')
    refine ⟨(h c).1.trans ((reference_array _ _ _ _ _ _ _ _ _).trans ?_), (h c).2⟩
    obtain ⟨h0, h1, h2, h3, h4, h5, h6, h7, h8⟩ := agree c
    rw [h0, h1, h2, h3, h4, h5, h6, h7, h8]
    rfl

end Cert.Mla

end
-- ==== Proof.lean ====
/-
  The certificate: the three programs' frames, the idealization (no operation was rewritten), and the equation of the kernel
  with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Mla.same_array⟩

end Cert.Proof

end
